-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x100000 : Shape := ⟨2, ![1024, 100000]⟩
abbrev S1024x200 : Shape := ⟨2, ![1024, 200]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : FVec F S1024x100000 .f32) (main_arg1 : IVec S1024x200 32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg1 main_v0
  let main_c_0 : IVec S_ 32 := constantI S_ 32 100000#32
  let main_v2 : IVec S1024x200 32 := broadcastInDim S1024x200 ![] bcast_S_S1024x200 main_c_0
  let main_v3 : IVec S1024x200 1 := cmpi .slt main_arg1 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x100000 : Shape := ⟨2, ![1024, 100000]⟩
abbrev S1024x200 : Shape := ⟨2, ![1024, 200]⟩
abbrev S100000x1024 : Shape := ⟨2, ![100000, 1024]⟩
abbrev S1x100000 : Shape := ⟨2, ![1, 100000]⟩
abbrev S2560x1024 : Shape := ⟨2, ![2560, 1024]⟩
abbrev S1x2560 : Shape := ⟨2, ![1, 2560]⟩
abbrev S1x1024 : Shape := ⟨2, ![1, 1024]⟩
abbrev S100000 : Shape := ⟨1, ![100000]⟩
abbrev S200x1024 : Shape := ⟨2, ![200, 1024]⟩
abbrev S204800 : Shape := ⟨1, ![204800]⟩
abbrev S6400 : Shape := ⟨1, ![6400]⟩
abbrev S_ : Shape := ⟨0, ![]⟩

abbrev nBuf : Table → Nat
  | .hbm => 10
  | .local .tc .vmem => 4
  | .local .scVector .vmem => 2
  | _ => 0

abbrev bufTy : (tb : Table) → Fin (nBuf tb) → BufTy
  | .hbm, ⟨0, _⟩ => ⟨S1024x100000, .f32⟩
  | .hbm, ⟨1, _⟩ => ⟨S1024x200, .i32⟩
  | .hbm, ⟨2, _⟩ => ⟨S100000x1024, .f32⟩
  | .hbm, ⟨3, _⟩ => ⟨S1x100000, .f32⟩
  | .hbm, ⟨4, _⟩ => ⟨S100000, .f32⟩
  | .hbm, ⟨5, _⟩ => ⟨S200x1024, .i32⟩
  | .hbm, ⟨6, _⟩ => ⟨S204800, .i32⟩
  | .hbm, ⟨7, _⟩ => ⟨S204800, .f32⟩
  | .hbm, ⟨8, _⟩ => ⟨S200x1024, .f32⟩
  | .hbm, ⟨9, _⟩ => ⟨S1024x200, .f32⟩
  | .local .tc .vmem, ⟨0, _⟩ => ⟨S2560x1024, .f32⟩
  | .local .tc .vmem, ⟨1, _⟩ => ⟨S2560x1024, .f32⟩
  | .local .tc .vmem, ⟨2, _⟩ => ⟨S1x2560, .f32⟩
  | .local .tc .vmem, ⟨3, _⟩ => ⟨S1x2560, .f32⟩
  | .local .scVector .vmem, ⟨0, _⟩ => ⟨S6400, .i32⟩
  | .local .scVector .vmem, ⟨1, _⟩ => ⟨S6400, .f32⟩
  | _, _ => ⟨S1024x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => true
  | ⟨1, _⟩ => true
  | ⟨2, _⟩ => true
  | ⟨3, _⟩ => true
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v2_scv : Ref sig .scVector := ⟨.hbm, 4, rfl⟩
abbrev main_v4_scv : Ref sig .scVector := ⟨.hbm, 6, rfl⟩
abbrev main_v5_scv : Ref sig .scVector := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2560x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x100000 : Shape := ⟨2, ![1024, 100000]⟩
abbrev S1024x200 : Shape := ⟨2, ![1024, 200]⟩
abbrev S_ : Shape := ⟨0, ![]⟩
abbrev S100000 : Shape := ⟨1, ![100000]⟩
abbrev S1024x200x1 : Shape := ⟨3, ![1024, 200, 1]⟩
abbrev S1 : Shape := ⟨1, ![1]⟩
abbrev S1x1x1 : Shape := ⟨3, ![1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024x200, .i32⟩
  | .hbm, ⟨2, _⟩ => ⟨S_, .f32⟩
  | .hbm, ⟨3, _⟩ => ⟨S100000, .f32⟩
  | .hbm, ⟨4, _⟩ => ⟨S_, .i32⟩
  | .hbm, ⟨5, _⟩ => ⟨S1024x200, .i32⟩
  | .hbm, ⟨6, _⟩ => ⟨S1024x200, .i1⟩
  | .hbm, ⟨7, _⟩ => ⟨S_, .i32⟩
  | .hbm, ⟨8, _⟩ => ⟨S1024x200, .i32⟩
  | .hbm, ⟨9, _⟩ => ⟨S1024x200, .i32⟩
  | .hbm, ⟨10, _⟩ => ⟨S1024x200, .i32⟩
  | .hbm, ⟨11, _⟩ => ⟨S1024x200x1, .i32⟩
  | .hbm, ⟨12, _⟩ => ⟨S1, .i32⟩
  | .hbm, ⟨13, _⟩ => ⟨S_, .i32⟩
  | .hbm, ⟨14, _⟩ => ⟨S1024x200x1, .i32⟩
  | .hbm, ⟨15, _⟩ => ⟨S1024x200x1, .i1⟩
  | .hbm, ⟨16, _⟩ => ⟨S1x1x1, .i32⟩
  | .hbm, ⟨17, _⟩ => ⟨S1024x200x1, .i32⟩
  | .hbm, ⟨18, _⟩ => ⟨S1024x200x1, .i1⟩
  | .hbm, ⟨19, _⟩ => ⟨S1024x200x1, .i1⟩
  | .hbm, ⟨20, _⟩ => ⟨S_, .i1⟩
  | .hbm, ⟨21, _⟩ => ⟨S1024x200, .i1⟩
  | .hbm, ⟨22, _⟩ => ⟨S1024x200, .f32⟩
  | .hbm, ⟨23, _⟩ => ⟨S_, .f32⟩
  | .hbm, ⟨24, _⟩ => ⟨S1024x200, .f32⟩
  | .hbm, ⟨25, _⟩ => ⟨S1024x200, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Setup.lean ====
/-
  What the whole run of the kernel shares: the program as the launch theorem of SparseCore calls takes it, the resource
  algebra (the handshakes of the call, the pipeline of the TensorCore kernel, the counters of the transfers), the names
  of the arrays in device memory, and the thirty-two blocks of 6400 elements that the tiles work on.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.ArrRel
public import Idealize.ShloMosaic.Lib.Tactic
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.Proof.Score

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The handshake semaphores of the call are what the launch theorem needs them to be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UR : Type := URounds (GSem nD τ sig) Unit
abbrev UU : Type := UH × (UR × Counters)

local notation "𝕄" => MT nD τ sig (HIx 1) (Elt F) ℕ UU ℕ

/-- The handshakes' share of the algebra. -/
abbrev EH : Emb UH (MT nD τ sig (HIx 1) (Elt F) ℕ UU ℕ) := embL
/-- The pipeline's share of the algebra. -/
abbrev EP : Emb UR (MT nD τ sig (HIx 1) (Elt F) ℕ UU ℕ) := (Emb.inl : Emb UR (UR × Counters)).trans embR

/-- The pipeline's share lies in the certificate's part of the algebra. -/
instance EP_landsIn : (EP (F := F)).LandsIn (upEmb : UEmb _ 𝕄) := inferInstance

/-! ## The arrays in device memory -/

/-- The array `train`. -/
abbrev trainLoc (d : Dev nD) : Loc nD τ sig := (SparseCore.T d).loc main_arg0
/-- The array `test_items`. -/
abbrev itemsLoc (d : Dev nD) : Loc nD τ sig := (SparseCore.T d).loc main_arg1
/-- The scores as one list, which the tiles read. -/
abbrev scoreLoc (d : Dev nD) : Loc nD τ sig := (SparseCore.T d).loc main_v2
/-- The item numbers as one list. -/
abbrev listLoc (d : Dev nD) : Loc nD τ sig := (SparseCore.T d).loc main_v4
/-- What the tiles write, as one list. -/
abbrev outLoc (d : Dev nD) : Loc nD τ sig := (SparseCore.T d).loc main_v5

/-! ## The blocks of the lists -/

theorem blocks_div : 32 ∣ S204800.size 0 := ⟨6400, rfl⟩

/-- Block `k` of a list of 204800: elements `6400 k` to `6400 k + 6399`. -/
abbrev block (k : Fin 32) : Rect S204800 := Rect.part (s := S204800) (a₀ := 0) blocks_div k

/-- The block of tile `i` of SparseCore `c`. -/
def tileBlock (c : Fin 2) (i : Fin 16) : Fin 32 := ⟨2 * i.val + c.val, by omega⟩

theorem tileBlock_injective {c c' : Fin 2} {i i' : Fin 16} (h : tileBlock c i = tileBlock c' i') : c = c' ∧ i = i' := by
  have h' : 2 * i.val + c.val = 2 * i'.val + c'.val := congrArg Fin.val h
  exact ⟨Fin.ext (by omega), Fin.ext (by omega)⟩

/-- Every block is some tile's. -/
theorem tileBlock_surjective (k : Fin 32) : ∃ c i, tileBlock c i = k :=
  ⟨⟨k.val % 2, by omega⟩, ⟨k.val / 2, by omega⟩, Fin.ext (by simp only [tileBlock]; omega)⟩

end Cert.Proof.Score

end
-- ==== Proof.Body.lean ====
module

public import proofs.«01_k».proof.Proof.Setup

/-! The body of the summing kernel: it loads its block of the training scores whole and stores the block's sums
    whole. What it leaves is stated once, over any two whole staging buffers. -/

@[expose] public section

noncomputable section

namespace Cert.Proof.Score

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section Whole

variable {F : FTy → Type} {sp : Space} {s : Shape} {e : EltTy} {m : Memref sig .tc sp s e} {off : Fin s.rank → ℕ}

/-- Loading a whole buffer from offset zero reads its contents. -/
theorem readAt_full (h : m.IsWhole) (hz : off = fun _ => 0) (inb : ∀ a, off a + s.size a ≤ s.size a) (f : m.view.ty.Contents (Elt F)) :
    m.view.readAt (Elt F) (Rect.unit off s.size inb).toLoadRect f = m.view.read (Elt F) f := by
  obtain ⟨b, rfl, rfl, rfl, h⟩ := h
  cases h
  exact Memref.readAt_unit_zero (Elt F) b hz inb f

/-- After a store of a whole buffer at offset zero the buffer reads as the stored value. -/
theorem read_stored_full (h : m.IsWhole) (hz : off = fun _ => 0) (inb : ∀ a, off a + s.size a ≤ s.size a)
    (f : m.view.ty.Contents (Elt F)) (w : s.Idx → Elt F e) :
    m.view.read (Elt F) ((m.access (Rect.unit off s.size inb)).write (Elt F) f w Finset.univ) = w := by
  obtain ⟨b, rfl, rfl, rfl, h⟩ := h
  cases h
  exact Memref.write_access_unit_zero_univ (Elt F) b hz inb f w

end Whole

variable {F : FTy → Type} [FloatOps F]

local notation "𝕄" => MT nD τ sig (HIx 1) (Elt F) ℕ UU ℕ

/-- The body, on a first buffer that holds `X` and a second that holds anything, leaves the first as it was and the
    sums of `X` in the second. -/
theorem sum_body (c : Dev nD) (i : grid0.Coords) (a1 : Memref sig .tc .vmem S2560x1024 .f32) (h1 : a1.IsWhole)
    (a2 : Memref sig .tc .vmem S1x2560 .f32) (h2 : a2.IsWhole) (X : S2560x1024.Idx → Elt F .f32) (Y : S1x2560.Idx → Elt F .f32)
    (Q : PUnit → sProp 𝕄) :
    iprop((owns (c.tc : Thread nD τ) a1 fullShare X ∗ owns (c.tc : Thread nD τ) a2 fullShare Y)
      ∗ ((owns (c.tc : Thread nD τ) a1 fullShare X ∗ owns (c.tc : Thread nD τ) a2 fullShare (k0_pay1 X)) -∗ Q ⟨⟩))
      ⊢ wp frame (wpE (defs₀ (F := F)) 𝒱₀ (c.tc : Thread nD τ) none) Set.univ (cc0__sum_body (F := F) i a1 h1 a2 h2) Q := by
  have hz : (![0, 0] : Fin 2 → ℕ) = fun _ => 0 := funext fun a => by fin_cases a <;> rfl
  rw [cc0__sum_body_eq_skeleton]
  unfold cc0__sum_body_skel owns
  rw [h1.set_eq_univ, h2.set_eq_univ]
  simp only [Prog.lift, Prog.bind_op, Prog.bind_ret]
  iintro ⟨⟨⟨%f, %hf, H1⟩, ⟨%g, %hg, H2⟩⟩, Hk⟩
  sl_steps
  iapply Hk
  isplitl [H1]
  · iexists f
    isplitr
    · ipureintro; exact hf
    iexact H1
  rw [readAt_full h1 hz, hf]
  iexists (a2.access (Rect.unit (s := S1x2560) ![0, 0] S1x2560.size inb_S1x2560_S1x2560_0_0)).write (Elt F) g (k0_pay1 X) Finset.univ
  isplitr
  · ipureintro
    exact read_stored_full h2 hz _ _ _
  iexact H2

end Cert.Proof.Score

end
-- ==== Proof.Region.lean ====
module

public import proofs.«01_k».proof.Proof.Body
public import Idealize.ShloMosaic.Lib.Pipeline.RegionArrays

/-! The summing region: forty points, each fetching a block of 2560 rows of the transposed training scores (the last
    block has 160) and writing back the sums of its rows. What the region leaves in its result is stated by column. -/

@[expose] public section

noncomputable section

namespace Cert.Proof.Score

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## What the staging buffers hold -/

/-- A staging buffer that held `dd`, after the fetch of block `t` of the transposed training scores `x`. -/
def fetchedBlk (x : S100000x1024.Idx → Elt F .f32) (t : Fin cfg0.N) (dd : S2560x1024.Idx → Elt F .f32) : S2560x1024.Idx → Elt F .f32 :=
  win0_0.fill (grid0.coords t) dd ((win0_0.blk t).view.read (Elt F) x)

/-- The contents of the buffers that main's arrays name, on each device. -/
abbrev Val0 (F : FTy → Type) : Type := (c : Dev nD) → (b : Ref sig .tc) → Buf (Elt F) ((c.tc : Thread nD τ).loc b)

/-- The proof data of the region: entered with main's arrays at `V`, the body leaves the fetched block as it found it
    and the block's sums in the other buffer; the device owes what it owes before the gathering call. -/
def rdat (V : Val0 F) (c : Dev nD) : Pipeline.RDat τ (Elt F) (HIx 1) ℕ UU ℕ cfg0 c where
  A w := V c (Pipeline.arrRef spec0 w)
  after := fun
    | 0 => fun _ Y X => X = Y
    | 1 => fun t _ X => ∃ dd, X = k0_pay1 (fetchedBlk (V c main_v0) t dd)
    | ⟨_ + 2, h⟩ => absurd h (Nat.not_lt.2 (Nat.le_add_left _ _))
  Φ _ := iprop(emp)
  q _ := fullShare
  owed _ := (K (F := F)).Otc c 0
  recorded _ := {p | (K (F := F)).lev (SparseCore.T c, p.1) p.2 ≤ 0}

/-- The region's proof data, by region. -/
def rdats (V : Val0 F) (p : Fin 1) (c : Dev nD) :
    Pipeline.RDat τ (Elt F) (HIx 1) ℕ UU ℕ (Pipeline.pin (pcfgs (F := F)) (fun p => (cfgs p).toPCfg_adm) p) c :=
  match p with
  | 0 => rdat V c

/-- The body at each point: on the fetched block it leaves the block and its sums. -/
theorem body_obl (V : Val0 F) (c : Dev nD) : (rdat V c).BodyObligation (defs₀ (F := F)) 𝒱₀ none Set.univ := by
  intro t Y hY
  obtain ⟨dd, hdd⟩ := ((rdat V c).finds_of_fetch (fetch0_0 t) (Y 0)).mp (hY 0)
  rw [bigSep_W0, show (rdat V c).Φ t.castSucc = (rdat V c).Φ t.succ from rfl]
  iintro ⟨He, Ho, H0, H1⟩
  iapply (sum_body c (grid0.coords t) (win0_0.stage (cfg0.slots t 0)) (hstage0_0 ((cfg0.slots t 0).cast nbuf0_0))
    (win0_1.stage (cfg0.slots t 1)) (hstage0_1 ((cfg0.slots t 1).cast nbuf0_1)) (Y 0) (Y 1) _)
  isplitl [H0 H1]
  · isplitl [H0]
    · iexact H0
    iexact H1
  iintro ⟨H0, H1⟩
  isplitl [He]
  · iexact He
  isplitl [Ho]
  · iexact Ho
  rw [bigSep_W0]
  isplitl [H0]
  · iexists (Y 0)
    isplitr
    · ipureintro; exact rfl
    iexact H0
  iexists (k0_pay1 (Y 0))
  isplitr
  · ipureintro
    exact ⟨dd, congrArg k0_pay1 hdd⟩
  iexact H1

/-! ## What the region leaves, by column -/

/-- The point whose block holds column `n`. -/
def ptOf (n : Fin 100000) : Fin cfg0.N := ⟨n.val / 2560, by have := n.isLt; show n.val / 2560 < 40; omega⟩

/-- Column `n` within its block. -/
def colOf (n : Fin 100000) : S1x2560.Idx
  | 0 => (0 : Fin 1)
  | 1 => (⟨n.val % 2560, Nat.mod_lt _ (by decide)⟩ : Fin 2560)
  | ⟨_ + 2, h⟩ => absurd h (Nat.not_lt.2 (Nat.le_add_left _ _))

/-- `v` is a sum the body may leave for column `n`: it comes from the fetched block, whatever the buffer held before. -/
def GoodAt (x : S100000x1024.Idx → Elt F .f32) (n : Fin 100000) (v : Elt F .f32) : Prop :=
  ∃ dd, v = k0_pay1 (fetchedBlk x (ptOf n) dd) (colOf n)

/-- Where the write-back of point `t` goes: columns `2560 t` on, 2560 of them or as many as are left. -/
theorem out_block : ∀ t : Fin cfg0.N, win0_1.index t 0 = 0 ∧ win0_1.index t 1 = t.val ∧ win0_1.xsize (grid0.coords t) 0 = 1
    ∧ win0_1.xsize (grid0.coords t) 1 = min 2560 (100000 - 2560 * t.val) := by decide +kernel

/-- After the write-backs of the first `n` points, every column below `2560 n` holds a sum of its block. -/
theorem cols_done (V : Val0 F) (c : Dev nD) : ∀ (n : ℕ) (_ : n ≤ 40) (G : S1x100000.Idx → Elt F .f32), (rdat V c).ArrAt 1 n G →
    ∀ y : S1x100000.Idx, (y 1).val < 2560 * n → GoodAt (V c main_v0) (y 1) (G y)
  | 0, _, _, _, _, hy => absurd hy (by omega)
  | n + 1, hn, G, hG, y, hy => by
    have hN : n < cfg0.N := (show n < 40 by omega)
    unfold Pipeline.RDat.ArrAt at hG
    rw [dif_pos hN, if_pos (flush0_1 ⟨n, hN⟩)] at hG
    obtain ⟨G₀, X, h0, ⟨Y, -, dd, hX⟩, rfl⟩ := hG
    obtain ⟨i0, i1, s0, s1⟩ := out_block ⟨n, hN⟩
    have hy0 : (y 0).val < 1 := (y 0).isLt
    have hy1 : (y 1).val < 100000 := (y 1).isLt
    by_cases hlt : (y 1).val < 2560 * n
    · have hmem : y ∉ ((cfg0.win 1).blk ⟨n, hN⟩).view.setOn Finset.univ := by
        rw [View.setOn_univ]
        show y ∉ ((View.whole main_v1).slice (win0_1.rect ⟨n, hN⟩)).set
        rw [View.set_slice_whole, Rect.mem_set_unit]
        intro h
        have := (h 1).1
        have : win0_1.index ⟨n, hN⟩ 1 * 2560 ≤ (y 1).val := this
        rw [i1] at this
        simp only at this
        omega
      rw [View.write_of_not_mem _ _ _ hmem]
      exact cols_done V c n (by omega) G₀ h0 y hlt
    · let z : (win0_1.xblock (grid0.coords ⟨n, hN⟩)).Idx := fun a => match a with
        | 0 => ⟨0, by show 0 < win0_1.xsize (grid0.coords ⟨n, hN⟩) 0; rw [s0]; exact Nat.one_pos⟩
        | 1 => ⟨(y 1).val - 2560 * n, by show (y 1).val - 2560 * n < win0_1.xsize (grid0.coords ⟨n, hN⟩) 1; rw [s1]; simp only; omega⟩
        | ⟨_ + 2, h⟩ => absurd h (Nat.not_lt.2 (Nat.le_add_left _ _))
      have hz : ((cfg0.win 1).blk ⟨n, hN⟩).view.emb z = y := by
        show (win0_1.rect ⟨n, hN⟩).emb z = y
        funext a
        match a with
        | 0 =>
          refine Fin.ext ?_
          rw [Rect.emb_apply]
          show win0_1.index ⟨n, hN⟩ 0 * 1 + 1 * 0 = (y 0).val
          rw [i0]
          omega
        | 1 =>
          refine Fin.ext ?_
          rw [Rect.emb_apply]
          show win0_1.index ⟨n, hN⟩ 1 * 2560 + 1 * ((y 1).val - 2560 * n) = (y 1).val
          rw [i1]
          simp only
          omega
        | ⟨_ + 2, h⟩ => exact absurd h (Nat.not_lt.2 (Nat.le_add_left _ _))
      have hw := View.write_emb_of_mem (Val := Elt F) (v := ((cfg0.win 1).blk ⟨n, hN⟩).view) G₀
        ((cfg0.win 1).cut (cfg0.grid.coords ⟨n, hN⟩) X) (Finset.mem_univ z)
      rw [hz] at hw
      rw [hw]
      have hpt : ptOf (y 1) = ⟨n, hN⟩ := Fin.ext (show (y 1).val / 2560 = n by omega)
      have hcol : win0_1.xinj (grid0.coords ⟨n, hN⟩) z = colOf (y 1) := by
        funext a
        match a with
        | 0 => rfl
        | 1 => exact Fin.ext (show (y 1).val - 2560 * n = (y 1).val % 2560 by omega)
        | ⟨_ + 2, h⟩ => exact absurd h (Nat.not_lt.2 (Nat.le_add_left _ _))
      refine ⟨dd, ?_⟩
      rw [hpt, ← hX, ← hcol]
      rfl

/-! ## The region, entered from main -/

/-- What the device owes before the gathering call, its waits so far at level 0. -/
def debt (c : Dev nD) : sProp 𝕄 :=
  iprop(∃ W, ⌜(K (F := F)).WBelow (SparseCore.T c) W 0⌝ ∗ owes (SparseCore.T c) ((K (F := F)).Otc c 0) W)

/-- It owes nothing at level 0. -/
theorem otc_none (c : Dev nD) (g : GSem nD τ sig) : (K (F := F)).Otc (N := 1) c 0 g none = 0 := by
  by_contra h
  have := (K (F := F)).lev_of_Otc_pos (Nat.pos_of_ne_zero h)
  have : 8 * 0 + 1 ≤ 0 := this
  omega

/-- The pipeline's own waits are at level 0. -/
theorem bound_below (V : Val0 F) (c : Dev nD) (t : Fin (cfg0.N + 1)) {W : Waits sig (HIx 1)} (h : ↑W ⊆ (rdat V c).bound none t) :
    (K (F := F)).WBelow (SparseCore.T c) W 0 := by
  intro p hp
  rcases h hp with h | ⟨w, s, rfl⟩
  · exact h
  · exact le_rfl

/-- The column sums: every column holds a sum the body may leave for it. -/
def sumsPts (V : Val0 F) (c : Dev nD) : sProp 𝕄 :=
  iprop(∃ G : Buf (Elt F) ((c.tc : Thread nD τ).loc main_v1), ⌜∀ y : S1x100000.Idx, GoodAt (V c main_v0) (y 1) (G y)⌝
    ∗ (c.tc : Thread nD τ).loc main_v1 ↦{fullShare} G)

/-- The summing region as main calls it: from main's arrays at `V` to the column sums, the other arrays as they were. -/
def region (V : Val0 F) : Pipeline.RDat.RegionSeg (pcfgs (F := F)) (fun p => (cfgs p).toPCfg_adm) (rdats V) none (defs₀ (F := F)) 𝒱₀
    (K (F := F)).L (K (F := F)).lev (0 : Fin 1) where
  win := launch0.win.to₀
  block_pos := block_pos0
  stage_whole := stage_whole0
  K := PEmpty
  osem k := k.elim
  ho := Pipeline.OwnSemFacts.none _
  hbody := body_obl V
  hwaits c := Pipeline.RDat.cellsWaits_intro _ _ _ _ _ fun _ _ _ => (K (F := F)).mayWait_none _ (otc_none c)
  pre c := iprop(unscopedBufs c (V c) ∗ debt c)
  post c := iprop(sumsPts V c ∗ Pipeline.unscopedRest spec0 c (V c) ∗ debt c)
  X _ := iprop(emp)
  Y _ := iprop(emp)
  Z c := Pipeline.unscopedRest spec0 c (V c)
  hentry c := by
    rw [Pipeline.prefHeld_of_none _ rfl]
    have hsplit := Pipeline.RDat.arrays_of_unscopedBufs (pcfgs (F := F)) (fun p => (cfgs p).toPCfg_adm) (rdats V) (p := 0) winFacts0
      arr_whole0 c (fun w => by fin_cases w <;> rfl) (V c) (fun _ => rfl)
    iintro ⟨⟨HU, HD⟩, -, -⟩
    ihave HAR := hsplit $$ HU
    icases HAR with ⟨HA, HR⟩
    unfold debt
    icases HD with ⟨%W, %hW, HO⟩
    imodintro
    isplitl [HA]
    · iexact HA
    isplitr
    · iempintro
    isplitl [HO]
    · iexists W
      isplitr
      · ipureintro
        exact fun p hp => Or.inl (hW p hp)
      iexact HO
    isplitr
    · iempintro
    iexact HR
  hin c := by
    rw [Pipeline.prefHeld_of_none _ rfl, show Pipeline.scopedRest (Pipeline.pin (pcfgs (F := F)) (fun p => (cfgs p).toPCfg_adm) 0).spec c = _ from
      scopedRest0_eq c]
    show _ ⊢ iprop(emp)
    iintro ⟨He, -, -⟩
    iexact He
  hout c := by
    rw [Pipeline.ownSems0_none, show Pipeline.scopedRest (Pipeline.pin (pcfgs (F := F)) (fun p => (cfgs p).toPCfg_adm) 0).spec c = _ from
      scopedRest0_eq c]
    show iprop(emp) ⊢ _
    iintro He
    isplitr
    · iempintro
    isplitr
    · iempintro
    iexact He
  hexit c := by
    unfold Pipeline.RDat.arraysAt
    rw [bigSep_W0]
    iintro ⟨⟨-, ⟨%G, %hG, HG⟩⟩, ⟨%W, %hW, HO⟩, -, HR⟩
    imodintro
    isplitl [HG]
    · unfold sumsPts
      iexists G
      isplitr
      · ipureintro
        exact fun y => cols_done V c 40 le_rfl G hG y (show (y 1).val < 102400 from lt_trans (y 1).isLt (by decide))
      rw [(arr_whole0 1).set_eq_univ]
      iexact HG
    isplitl [HR]
    · iexact HR
    unfold debt
    iexists W
    isplitr
    · ipureintro
      exact bound_below V c _ hW
    iexact HO

end Cert.Proof.Score

end
-- ==== Proof.Host.lean ====
module

public import proofs.«01_k».proof.Proof.Region

/-! Main's steps before and after the gathering call: one rule for an operation of one operand, used at every
    transpose and reshape, and one for the call of the summing region. -/

@[expose] public section

noncomputable section

namespace Cert.Proof.Score

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A host operation of one operand `x` and one result `y`: it needs both arrays whole, keeps `x` and leaves in `y`
    what its value on `x` is. -/
theorem wp_host (d : Dev nD) (V₀ : Valuation τ sig (Elt F)) (x y : Ref sig .tc) (op : HloOp τ sig (Elt F))
    (hb : op.bufs = {Proc.devRef .tc x, Proc.devRef .tc y}) (hxy : x ≠ y) (hf : op.fresh = ∅)
    (fx : x.ty.Contents (Elt F)) (g : y.ty.Contents (Elt F))
    (hres : ∀ V : Valuation τ sig (Elt F), V (Proc.devRef .tc x) = fx → op.result V (Proc.devRef .tc y) = g)
    (hkeep : ∀ V : Valuation τ sig (Elt F), op.result V (Proc.devRef .tc x) = V (Proc.devRef .tc x))
    (Q : PUnit → sProp 𝕄) (hp : (SparseCore.T d).2.kind.runsHlo = true) :
    iprop(boundary (SparseCore.T d) ∗ ((SparseCore.T d).loc x ↦{fullShare} fx) ∗ (∃ fy : y.ty.Contents (Elt F), (SparseCore.T d).loc y ↦{fullShare} fy)
      ∗ ((boundary (SparseCore.T d) ∗ ((SparseCore.T d).loc x ↦{fullShare} fx) ∗ ((SparseCore.T d).loc y ↦{fullShare} g)) -∗ Q ⟨⟩))
      ⊢ wp frame (wpE (SparseCore.Cfg.defs (K (F := F)) (D (F := F))) 𝒱 (SparseCore.T d) none) Set.univ (hlo hp op fun _ => .ret ⟨⟩) Q := by
  iintro ⟨HB, Hx, ⟨%fy, Hy⟩, Hk⟩
  have hne : (Proc.devRef .tc x : DevRef τ sig) ≠ Proc.devRef .tc y := fun h => hxy (Proc.devRef_injective _ h)
  let V : Valuation τ sig (Elt F) := Function.update (Function.update V₀ (Proc.devRef .tc x) fx) (Proc.devRef .tc y) fy
  have hVx : V (Proc.devRef .tc x) = fx := by
    show Function.update _ _ _ _ = _
    rw [Function.update_of_ne hne, Function.update_self]
  have hVy : V (Proc.devRef .tc y) = fy := Function.update_self _ _ _
  have hheld : ∀ W : Valuation τ sig (Elt F), (StableHlo.held (SparseCore.T d) {Proc.devRef .tc x, Proc.devRef .tc y} W : sProp 𝕄)
      = iprop(((SparseCore.T d).loc x ↦{fullShare} W (Proc.devRef .tc x)) ∗ ((SparseCore.T d).loc y ↦{fullShare} W (Proc.devRef .tc y))) := by
    intro W
    unfold StableHlo.held
    rw [SparseCore.bigSep_insert' (by rw [Finset.mem_singleton]; exact hne), bigSep_singleton]
  have hstep := StableHlo.wp_hlo_within (defs := SparseCore.Cfg.defs (K (F := F)) (D (F := F))) 𝒱 (SparseCore.T d) none Set.univ (hp := hp) (op := op) (k := fun _ => .ret PUnit.unit) (V := V) (Q := Q)
    (S := {Proc.devRef .tc x, Proc.devRef .tc y}) (le_of_eq hb) hf
  rw [hheld, hheld, hVx, hVy, hres V hVx, hkeep V, hVx, wp_ret] at hstep
  iapply hstep $$ [HB Hx Hy]
  · isplitl [HB]
    · iexact HB
    isplitl [Hx]
    · iexact Hx
    iexact Hy
  iintro H
  imodintro
  iapply Hk $$ H

/-- The call of the summing region: from main's arrays at `V` it leaves the column sums, the other arrays as they were. -/
theorem wp_sums (V : Val0 F) (d : Dev nD) (Q : PUnit → sProp 𝕄) :
    iprop(((boundary (SparseCore.T d) ∗ sumsPts V d ∗ Pipeline.unscopedRest spec0 d (V d) ∗ debt d) -∗ Q ⟨⟩)
      ∗ boundary (SparseCore.T d) ∗ (unscopedBufs d (V d) ∗ debt d) ∗ levAts (K (F := F)).L (K (F := F)).lev
      ∗ Pipeline.cellsGhost (Pipeline.pin (pcfgs (F := F)) fun p => (cfgs p).toPCfg_adm) EP 0 d
      ∗ Pipeline.toksInit (Pipeline.pin (pcfgs (F := F)) fun p => (cfgs p).toPCfg_adm) EP 0 d)
      ⊢ wp frame (wpE (SparseCore.Cfg.defs (K (F := F)) (D (F := F))) 𝒱 (SparseCore.T d) none) Set.univ
        (Prog.lift (.customCall (SparseCore.inner (Pipeline.entry (0 : Fin 1))) ())) Q := by
  refine BIBase.Entails.trans ?_ ((K (F := F)).wp_liftProg (D (F := F)) 𝒱 (SparseCore.T d) Set.univ none
    (.op (.customCall (Pipeline.entry (0 : Fin 1)) ()) .ret) Q)
  have h := Pipeline.RDat.RegionSeg.wp (pcfgs (F := F)) (fun p => (cfgs p).toPCfg_adm) (rdats V) none cellOf_inj EP (defs₀ (F := F)) 𝒱₀
    (K (F := F)).L (K (F := F)).lev (region V) d none (fun _ h => nomatch h) .ret Q
  dsimp only [region] at h
  refine BIBase.Entails.trans ?_ h
  rw [wp_ret]
  iintro ⟨Hk, Hr⟩
  isplitl [Hk]
  · iintro H
    imodintro
    iapply Hk $$ H
  iexact Hr

end Cert.Proof.Score

end
-- ==== Proof.Tile.lean ====
/-
  One tile of the SparseCore call. Tile `i` of SparseCore `c` copies its block of the list of item numbers into its own
  memory, gathers the score of each of those items from the list of scores with one indirect transfer, and copies the
  6400 gathered scores out to its block of the result. What the scores are is left open here: the list of scores is any
  list whose element at each place stands in a given relation `R` to that place, and the tile leaves in each place of its
  block a value that stands in `R` to the item number at that place.
-/
module

public import proofs.«01_k».proof.Proof.Setup

@[expose] public section

noncomputable section

namespace Cert.Proof.Score

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The elements of block `k`. -/
abbrev blockSet (k : Fin 32) : Finset S204800.Idx := (block k).set

/-! ## What a tile is given and what it gives back -/

/-- The list of item numbers, per device. -/
abbrev Items (F : FTy → Type) : Type := (d : Dev nD) → Buf (Elt F) (listLoc d)
/-- What is known of a score: the device, the item, and a value its score may have. -/
abbrev ScoreRel (F : FTy → Type) : Type := Dev nD → S100000.Idx → Elt F .f32 → Prop

variable (ids : Items F) (R : ScoreRel F)

/-- Every item number names a score. -/
def InRange : Prop := ∀ (d : Dev nD) (j : S204800.Idx), (ids d j).toNat < 100000

/-- Every element of `f` is a score its place may have. -/
def IsScores (d : Dev nD) (f : Buf (Elt F) (scoreLoc d)) : Prop := ∀ x : S100000.Idx, R d x (f x)

/-- Value `v` is a score that the item listed at place `j` may have. -/
def IsScoreOf (d : Dev nD) (j : S204800.Idx) (v : Elt F .f32) : Prop := ∀ x : S100000.Idx, (x 0).val = (ids d j).toNat → R d x v

/-- Share `k` of thirty-two of the list of scores. -/
abbrev scoreShare (k : Fin 32) : PosShare TreeShare := pieceOf fullShare 32 (by decide) k

abbrev scorePts (d : Dev nD) (k : Fin 32) : sProp 𝕄 := iprop(∃ f, ⌜IsScores R d f⌝ ∗ scoreLoc d ↦{scoreShare k} f)
abbrev listPts (d : Dev nD) (k : Fin 32) : sProp 𝕄 := listLoc d ↦[blockSet k]{fullShare} ids d
abbrev outPts (d : Dev nD) (k : Fin 32) : sProp 𝕄 := iprop(∃ g, outLoc d ↦[blockSet k]{fullShare} g)
abbrev donePts (d : Dev nD) (k : Fin 32) : sProp 𝕄 :=
  iprop(∃ g, ⌜∀ j ∈ blockSet k, IsScoreOf ids R d j (g j)⌝ ∗ outLoc d ↦[blockSet k]{fullShare} g)

/-! ## The views a tile addresses -/

section Tile

variable (d : Dev nD) (L : grid1.Coords)

abbrev coreOf (L : grid1.Coords) : Fin τ.nSC := (L 0).castLE hcore1
abbrev subOf (L : grid1.Coords) : Fin τ.nSub := (L 1).castLE hsub1
theorem bound_core : grid1.bound 0 = 2 := rfl
theorem bound_sub : grid1.bound 1 = 16 := rfl
/-- The block that the tile at coordinates `L` works on. -/
abbrev blockOf (L : grid1.Coords) : Fin 32 := tileBlock (Fin.cast bound_core (L 0)) (Fin.cast bound_sub (L 1))

abbrev tileRect (L : grid1.Coords) : Rect S204800 := Rect.unit (s := S204800) (k1_off1 L) S6400.size (k1_off1_inb L)
abbrev listBlk (L : grid1.Coords) : Memref sig .scVector .hbm S6400 .i32 := (Memref.whole main_v4_scv).slice (tileRect L) (fun _ => rfl)
abbrev outBlk (L : grid1.Coords) : Memref sig .scVector .hbm S6400 .f32 := (Memref.whole main_v5_scv).slice (tileRect L) (fun _ => rfl)
abbrev allScores : Memref sig .scVector .hbm S100000 .f32 := (Memref.whole main_v2_scv).slice (Rect.unit (s := S100000) ![0] S100000.size inb_S100000_S100000_0) (fun _ => rfl)

/-- The rectangle the kernel addresses is the tile's block. -/
theorem tileRect_eq : tileRect L = block (blockOf L) := by
  unfold tileRect block Rect.part Rect.block
  congr 1 <;> funext a <;> obtain rfl := Subsingleton.elim a 0
  · rw [k1_off1_eq]
    simp only [Shape.partIx, Shape.partSize, tileBlock, Matrix.cons_val_zero, ↓reduceIte, Fin.val_cast]
    show _ = (2 * (L 1).val + (L 0).val) * (204800 / 32)
    omega
  · simp [Shape.partSize]

theorem listBlk_set : (listBlk L).view.set = blockSet (blockOf L) := by
  show ((View.whole (main_v4_scv : Ref sig .scVector)).slice (tileRect L)).set = _
  rw [View.set_slice, tileRect_eq]; exact Finset.map_refl
theorem outBlk_set : (outBlk L).view.set = blockSet (blockOf L) := by
  show ((View.whole (main_v5_scv : Ref sig .scVector)).slice (tileRect L)).set = _
  rw [View.set_slice, tileRect_eq]; exact Finset.map_refl

theorem listBlk_pts (f : Buf (Elt F) (listLoc d)) :
    ((listBlk L).view.loc (V d (coreOf L) (subOf L)) ↦[(listBlk L).view.set]{fullShare} f : sProp 𝕄) = listLoc d ↦[blockSet (blockOf L)]{fullShare} f := by
  rw [listBlk_set]
theorem outBlk_pts (f : Buf (Elt F) (outLoc d)) :
    ((outBlk L).view.loc (V d (coreOf L) (subOf L)) ↦[(outBlk L).view.set]{fullShare} f : sProp 𝕄) = outLoc d ↦[blockSet (blockOf L)]{fullShare} f := by
  rw [outBlk_set]
theorem scoreV_pts (q : PosShare TreeShare) (f : Buf (Elt F) (scoreLoc d)) :
    ((Memref.whole main_v2_scv).view.loc (V d (coreOf L) (subOf L)) ↦{q} f : sProp 𝕄) = scoreLoc d ↦{q} f := rfl
theorem ixV_pts (f : Buf (Elt F) ((V d (coreOf L) (subOf L)).loc cc1_scratch0)) :
    ((Memref.whole cc1_scratch0).view.loc (V d (coreOf L) (subOf L)) ↦{fullShare} f : sProp 𝕄) = (V d (coreOf L) (subOf L)).loc cc1_scratch0 ↦{fullShare} f := rfl
theorem gotV_pts (f : Buf (Elt F) ((V d (coreOf L) (subOf L)).loc cc1_scratch1)) :
    ((Memref.whole cc1_scratch1).view.loc (V d (coreOf L) (subOf L)) ↦{fullShare} f : sProp 𝕄) = (V d (coreOf L) (subOf L)).loc cc1_scratch1 ↦{fullShare} f := rfl

/-! ## The tile's own semaphores and memory -/

abbrev inCell (d : Dev nD) (c : Fin τ.nSC) (i : Fin τ.nSub) : GSem nD τ sig := (V d c i, .dma cc1_scoped0.sem)
abbrev gatherCell (d : Dev nD) (c : Fin τ.nSC) (i : Fin τ.nSub) : GSem nD τ sig := (V d c i, .dma cc1_scratch2.sem)
abbrev outCell (d : Dev nD) (c : Fin τ.nSC) (i : Fin τ.nSub) : GSem nD τ sig := (V d c i, .dma cc1_scoped1.sem)

/-- The three semaphores of the tile's transfers, out of all its own. -/
theorem ownSems0_tile :
    (ownSems0 (V d (coreOf L) (subOf L)) : sProp 𝕄)
      = iprop(semVal (inCell d (coreOf L) (subOf L)) 0 ∗ semVal (gatherCell d (coreOf L) (subOf L)) 0 ∗ semVal (outCell d (coreOf L) (subOf L)) 0
          ∗ bigSep ((((ownCells (V d (coreOf L) (subOf L))).erase (inCell d (coreOf L) (subOf L))).erase (gatherCell d (coreOf L) (subOf L))).erase (outCell d (coreOf L) (subOf L)))
              fun g => semVal g 0) := by
  have own : ∀ s : DmaSem sig, (SemLoc.dma s : SemLoc sig).isScoped .scVector = true →
      ((V d (coreOf L) (subOf L), SemLoc.dma s) : GSem nD τ sig) ∈ ownCells (V d (coreOf L) (subOf L)) := fun s h => mem_ownCells.mpr ⟨rfl, h⟩
  have ne : ∀ s s' : DmaSem sig, s ≠ s' → ((V d (coreOf L) (subOf L), SemLoc.dma s) : GSem nD τ sig) ≠ (V d (coreOf L) (subOf L), SemLoc.dma s') :=
    fun s s' h e => h (SemLoc.dma.inj (Prod.mk.inj e).2)
  unfold SparseCore.Cfg.ownSems0
  rw [SparseCore.bigSep_erase' (own cc1_scoped0.sem (by decide)),
    SparseCore.bigSep_erase' (Finset.mem_erase.mpr ⟨ne cc1_scratch2.sem cc1_scoped0.sem (by decide), own _ (by decide)⟩),
    SparseCore.bigSep_erase' (Finset.mem_erase.mpr ⟨ne cc1_scoped1.sem cc1_scratch2.sem (by decide),
      Finset.mem_erase.mpr ⟨ne cc1_scoped1.sem cc1_scoped0.sem (by decide), own _ (by decide)⟩⟩)]

/-- The tile's two scratch buffers, each at some contents, out of all its own memory. -/
theorem ownBufs_tile :
    (ownBufs (V d (coreOf L) (subOf L)) : sProp 𝕄)
      = iprop((∃ f, (V d (coreOf L) (subOf L)).loc cc1_scratch0 ↦{fullShare} f) ∗ (∃ f, (V d (coreOf L) (subOf L)).loc cc1_scratch1 ↦{fullShare} f)
          ∗ bigSep (((ownRefs (τ := τ) (.scVector (coreOf L) (subOf L))).erase ((Proc.scVector (coreOf L) (subOf L)).devRef cc1_scratch0)).erase
              ((Proc.scVector (coreOf L) (subOf L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (coreOf L) (subOf L))
    (b := (Proc.scVector (coreOf L) (subOf L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (coreOf L) (subOf L)) (b := (Proc.scVector (coreOf L) (subOf L)).devRef cc1_scratch1) rfl⟩)]

/-! ## The tile's run -/

/-- The item numbers that the tile's list transfer lands are in range. -/
theorem landed_lt (hin : InRange ids) (fs : Buf (Elt F) ((V d (coreOf L) (subOf L)).loc cc1_scratch0)) (pay : S6400.Idx → Elt F .i32)
    (hpay : pay = (listBlk L).view.read (Elt F) (ids d)) :
    ∀ x, ((Memref.whole cc1_scratch0).view.read (Elt F) (View.write (Elt F) (Memref.whole cc1_scratch0).view fs pay Finset.univ) x).toNat < S100000.size gathers_S100000_S6400.axis := by
  subst hpay; intro x
  rw [View.write_whole_univ]
  simp only [Memref.view_whole, View.read_whole]
  rw [show ∀ j, (listBlk L).view.read (Elt F) (ids d) j = ids d ((listBlk L).view.emb j) from fun j => (View.read_apply _ _).trans (cast_eq _ _)]
  exact hin d _

variable [FloatOps F]

/-- The credits of the gather's 6400 one-element transfers sum to the credit of the whole buffer. -/
theorem gather_credit (h : S100000.Gathers 0 S6400) :
    ∑ j, ((Memref.whole cc1_scratch1).slice (S6400.rowRect h.axis' j) (S6400.stride_rowRect h.axis' j)).view.dmaCredit = (Memref.whole cc1_scratch1).view.dmaCredit :=
  SparseCore.sum_rowCredit_eq_dmaCredit _ _ fun _ => rfl

omit [FloatOps F] in
/-- The slice of all the scores keeps every place. -/
theorem allScores_emb (z : S100000.Idx) : (((allScores).view.emb z : S100000.Idx) 0).val = (z 0).val := by
  show ((Rect.unit (s := S100000) ![0] S100000.size inb_S100000_S100000_0).emb z 0).val = _
  rw [Rect.emb_apply]
  simp

/-- What the gather brings to place `x` of the tile's block is a score of the item listed there. -/
theorem gathered_isScoreOf (sc : Buf (Elt F) (scoreLoc d)) (hsc : IsScores R d sc)
    (fs : Buf (Elt F) ((V d (coreOf L) (subOf L)).loc cc1_scratch0)) (pay : S6400.Idx → Elt F .i32)
    (hpay : pay = (listBlk L).view.read (Elt F) (ids d)) (hn : S6400.numel = S6400.size gathers_S100000_S6400.axis')
    (hin : ∀ x, ((Memref.whole cc1_scratch0).view.read (Elt F) (View.write (Elt F) (Memref.whole cc1_scratch0).view fs pay Finset.univ) x).toNat < S100000.size gathers_S100000_S6400.axis)
    (x : S6400.Idx) :
    IsScoreOf ids R d ((listBlk L).view.emb x)
      (SparseCore.gatherPayload gathers_S100000_S6400 ((allScores).view.read (Elt F) sc)
        (SparseCore.rows ((Memref.whole cc1_scratch0).view.read (Elt F) (View.write (Elt F) (Memref.whole cc1_scratch0).view fs pay Finset.univ)) hn hin) x) := by
  subst hpay
  intro y hy
  have hread : (Memref.whole cc1_scratch0).view.read (Elt F) (View.write (Elt F) (Memref.whole cc1_scratch0).view fs ((listBlk L).view.read (Elt F) (ids d)) Finset.univ)
      = fun x => ids d ((listBlk L).view.emb x) := by
    funext x
    rw [View.write_whole_univ]
    simp only [Memref.view_whole, View.read_whole]
    exact (View.read_apply _ _).trans (cast_eq _ _)
  have hx : S6400.rowMajor.symm ((x gathers_S100000_S6400.axis').cast hn.symm) = x := by
    rw [Equiv.symm_apply_eq]; exact Fin.ext (Shape.rowMajor_val_one x).symm
  unfold SparseCore.gatherPayload
  rw [show ∀ z, (allScores).view.read (Elt F) sc z = sc ((allScores).view.emb z) from fun z => (View.read_apply _ _).trans (cast_eq _ _)]
  have hy' : (allScores).view.emb (gathers_S100000_S6400.idx (SparseCore.rows ((Memref.whole cc1_scratch0).view.read (Elt F)
      (View.write (Elt F) (Memref.whole cc1_scratch0).view fs ((listBlk L).view.read (Elt F) (ids d)) Finset.univ)) hn hin) x) = y := by
    refine funext fun (a : Fin 1) => ?_
    obtain rfl : a = 0 := Subsingleton.elim _ _
    refine Fin.ext ?_
    refine (allScores_emb _).trans ((congrArg Fin.val (Shape.Gathers.idx_axis gathers_S100000_S6400 _ x)).trans ?_)
    rw [hy]
    simp only [SparseCore.rows, hread]
    exact congrArg (fun z => (ids d ((listBlk L).view.emb z)).toNat) hx
  rw [hy']
  exact hsc y

set_option maxHeartbeats 4000000 in
/-- The tile's whole run: from its share of the list of scores, its block of the list of items and its block of the
    result, it leaves its block of the result at scores of the items listed there. -/
theorem tile_run (hF : (K (F := F)).Facts) (hin : InRange ids) (O : CellTallies nD τ sig (HIx 1)) (W : Waits sig (HIx 1)) (hO : ∀ g, O g none = 0) :
    iprop(levAts (K (F := F)).L (K (F := F)).lev ∗ emp
        ∗ (scorePts R d (blockOf L) ∗ listPts ids d (blockOf L) ∗ outPts d (blockOf L))
        ∗ scopedBufs (V d (coreOf L) (subOf L)) ∗ scopedSems0 (V d (coreOf L) (subOf L)) ∗ owes (V d (coreOf L) (subOf L)) O W)
      ⊢ wp frame (wpE (defs₀ (F := F)) 𝒱₀ (V d (coreOf L) (subOf L)) none) Set.univ
          (cc1__gather_kernel L (Memref.whole main_v2_scv) (Memref.isWhole_whole _) (Memref.whole main_v4_scv) (Memref.isWhole_whole _) (Memref.whole main_v5_scv) (Memref.isWhole_whole _)
            (Memref.whole cc1_scratch0) (Memref.isWhole_whole _) (Memref.whole cc1_scratch1) (Memref.isWhole_whole _) cc1_scratch2 cc1_scoped0 cc1_scoped1)
          fun _ => iprop(donePts ids R d (blockOf L)
            ∗ scopedBufs (V d (coreOf L) (subOf L)) ∗ scopedSems0 (V d (coreOf L) (subOf L))
            ∗ ∃ W', ⌜∀ p ∈ W', p ∈ W ∨ p.2 = none⌝ ∗ owes (V d (coreOf L) (subOf L)) O W') := by
  simp only [cc1__gather_kernel_eq_skeleton]; unfold cc1__gather_kernel_skel
  rw [(K (F := F)).scopedBufs_V hF d (coreOf L) (subOf L), SparseCore.Cfg.scopedSems0_V (Val := Elt F) d (coreOf L) (subOf L), ownSems0_tile, ownBufs_tile]
  iintro ⟨#Hlv, -, ⟨⟨%sc, %hsc, Hx⟩, Hi, ⟨%g, Ho⟩⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (coreOf L) (subOf L)) (default : HIx 1) O from
    (K (F := F)).mayWaits_none (thr := V d (coreOf L) (subOf L)) hO) $$ Hlv
  ihave Hi' := (Entails.of_eq (listBlk_pts (F := F) d L _).symm) $$ Hi
  ihave Ho' := (Entails.of_eq (outBlk_pts (F := F) d L _).symm) $$ Ho
  ihave Hx' := (Entails.of_eq (scoreV_pts (F := F) d L _ _).symm) $$ Hx
  ihave Hs' := (Entails.of_eq (ixV_pts (F := F) d L _).symm) $$ Hs
  ihave Hr' := (Entails.of_eq (gotV_pts (F := F) d L _).symm) $$ Hr
  sl_exec
  -- the gather reads the scores through the slice of all of them, at the tile's share
  ihave Hxs := (pointsTo_split_subset (q := scoreShare (blockOf L)) (f := sc) (S := Finset.univ) (Finset.subset_univ (allScores).view.set)).1 $$ Hx'
  icases Hxs with ⟨Hxs, Hxr⟩
  have hgot : (Memref.whole cc1_scratch1).view.set = Finset.univ := View.set_whole _
  have hix : (Memref.whole cc1_scratch0).view.set = Finset.univ := View.set_whole _
  ihave Hr'' := (Entails.of_eq (show ((Memref.whole cc1_scratch1).view.loc (V d (coreOf L) (subOf L)) ↦{fullShare} fr : sProp 𝕄)
      = (Memref.whole cc1_scratch1).view.loc (V d (coreOf L) (subOf L)) ↦[(Memref.whole cc1_scratch1).view.set]{fullShare} fr by rw [hgot])) $$ Hr'
  ihave Hs'' := (Entails.of_eq (show ((Memref.whole cc1_scratch0).view.loc (V d (coreOf L) (subOf L)) ↦{fullShare} View.write (Elt F) (Memref.whole cc1_scratch0).view fs (tile_run.sl.dma0 ids d L) Finset.univ : sProp 𝕄)
      = (Memref.whole cc1_scratch0).view.loc (V d (coreOf L) (subOf L)) ↦[(Memref.whole cc1_scratch0).view.set]{fullShare} View.write (Elt F) (Memref.whole cc1_scratch0).view fs (tile_run.sl.dma0 ids d L) Finset.univ
      by rw [hix])) $$ Hs'
  iapply (SparseCore.wp_indirectGatherLocal countersEmb 𝒱₀ (V d (coreOf L) (subOf L)) none (hg := gathers_S100000_S6400) (default : HIx 1)
      (Memref.whole cc1_scratch1).view.dmaCredit (gather_credit _) (by decide) (landed_lt ids d L hin fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (coreOf L) (subOf L)) none (default : HIx 1) (rfl : (Memref.whole cc1_scratch1).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr', -, Hs'⟩, HsemB, HO⟩
  ihave Hr3 := (Entails.of_eq (show ((Memref.whole cc1_scratch1).view.loc (V d (coreOf L) (subOf L)) ↦[(Memref.whole cc1_scratch1).view.set]{fullShare} _ : sProp 𝕄)
      = (Memref.whole cc1_scratch1).view.loc (V d (coreOf L) (subOf L)) ↦{fullShare} _ by rw [hgot])) $$ Hr'
  ihave Hs3 := (Entails.of_eq (show ((Memref.whole cc1_scratch0).view.loc (V d (coreOf L) (subOf L)) ↦[(Memref.whole cc1_scratch0).view.set]{fullShare} _ : sProp 𝕄)
      = (Memref.whole cc1_scratch0).view.loc (V d (coreOf L) (subOf L)) ↦{fullShare} _ by rw [hix])) $$ Hs'
  sl_exec
  sl_step
  isplitl [Ho']
  · ihave Ho3 := (Entails.of_eq (outBlk_pts (F := F) d L _)) $$ Ho'
    iexists _; isplitr
    swap; · iexact Ho3
    ipureintro
    rw [View.writes_singleton, ← outBlk_set L]
    intro j hj
    obtain ⟨x, -, rfl⟩ := Finset.mem_map.mp hj
    have := gathered_isScoreOf ids R d L sc hsc fs _ rfl rfl (landed_lt ids d L hin fs _ rfl) x
    have hemb : ((outBlk L).view.slice (Rect.whole S6400)).emb x = (outBlk L).view.emb x := by
      exact congrArg (outBlk L).view.emb (Rect.emb_whole_apply S6400 x)
    have hval := View.write_emb_of_mem (v := (outBlk L).view.slice (Rect.whole S6400)) (Val := Elt F) g (tile_run.sl.dma0_1 ids d L hin sc fs fr) (Finset.mem_univ x)
    rw [hemb] at hval
    rw [hval]
    refine (congrArg (IsScoreOf ids R d ((listBlk L).view.emb x)) ?_).mp this
    exact ((cast_eq _ _).trans (congrFun (View.read_write_univ _ _) x)).symm
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with rfl | rfl | rfl | hp <;> first | exact .inr rfl | exact .inl hp

end Tile

/-! ## What the handshakes of the call carry -/

variable [FloatOps F]

/-- SparseCore `c` takes its sixteen tiles' shares and blocks and brings their blocks of the result back; a tile takes
    and brings back its own. -/
def P : (K (F := F)).Pay (nD := nD) (Val := Elt F) (Name := ℕ) (U := UU) where
  st := fun q d c => match q with
    | 0 => iprop(bigSep Finset.univ fun i : Fin 16 => iprop(scorePts R d (tileBlock (Fin.cast nCore_zero c) i)
        ∗ listPts ids d (tileBlock (Fin.cast nCore_zero c) i) ∗ outPts d (tileBlock (Fin.cast nCore_zero c) i)))
  dn := fun q d c => match q with
    | 0 => iprop(bigSep Finset.univ fun i : Fin 16 => donePts ids R d (tileBlock (Fin.cast nCore_zero c) i))
  go := fun q d c i => match q with
    | 0 => iprop(scorePts R d (tileBlock (Fin.cast nCore_zero c) (Fin.cast nSub_zero i))
        ∗ listPts ids d (tileBlock (Fin.cast nCore_zero c) (Fin.cast nSub_zero i)) ∗ outPts d (tileBlock (Fin.cast nCore_zero c) (Fin.cast nSub_zero i)))
  td := fun q d c i => match q with
    | 0 => donePts ids R d (tileBlock (Fin.cast nCore_zero c) (Fin.cast nSub_zero i))
  x := fun _ _ => iprop(emp)

instance storable_given (d : Dev nD) (k : Fin 32) :
    BI.Storable (upEmb : UEmb _ 𝕄) iprop(scorePts R d k ∗ listPts ids d k ∗ outPts d k) := inferInstance
instance storable_done (d : Dev nD) (k : Fin 32) : BI.Storable (upEmb : UEmb _ 𝕄) (donePts ids R d k) := inferInstance

instance P_storable : (P ids R).IsStorable where
  st q d c := match q with
    | 0 => (inferInstance : BI.Storable (upEmb : UEmb _ 𝕄) iprop(bigSep Finset.univ fun i : Fin 16 => iprop(scorePts R d (tileBlock (Fin.cast nCore_zero c) i)
        ∗ listPts ids d (tileBlock (Fin.cast nCore_zero c) i) ∗ outPts d (tileBlock (Fin.cast nCore_zero c) i))))
  dn q d c := match q with
    | 0 => (inferInstance : BI.Storable (upEmb : UEmb _ 𝕄) iprop(bigSep Finset.univ fun i : Fin 16 => donePts ids R d (tileBlock (Fin.cast nCore_zero c) i)))
  go q d c i := match q with
    | 0 => storable_given ids R d (tileBlock (Fin.cast nCore_zero c) (Fin.cast nSub_zero i))
  td q d c i := match q with
    | 0 => storable_done ids R d (tileBlock (Fin.cast nCore_zero c) (Fin.cast nSub_zero i))

/-! ## The launch's two obligations of the call -/

/-- The coordinates of tile `s` of SparseCore `c`. -/
def coordsOf (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__gather_kernel (coordsOf c s)
          (Memref.whole main_v2_scv) (Memref.isWhole_whole _) (Memref.whole main_v4_scv) (Memref.isWhole_whole _) (Memref.whole main_v5_scv) (Memref.isWhole_whole _)
          (Memref.whole cc1_scratch0) (Memref.isWhole_whole _) (Memref.whole cc1_scratch1) (Memref.isWhole_whole _) cc1_scratch2 cc1_scoped0 cc1_scoped1) ⟨⟩ c s := rfl

omit [FloatOps F] in
/-- The waits of the tile's own transfers are among those the launch theorem lets a tile record. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]; · iexact HA
  isplitl [HB]; · iexact HB
  isplitl [HC]; · iexact HC
  iexists W'
  isplitr; · ipureintro; intro p hp; rcases hW p hp with h | h; exacts [.inl h, .inr (.inl h)]
  iexact HO

set_option maxRecDepth 16384 in
theorem tile_obl (hin : InRange ids) : (K (F := F)).TileObl (D (F := F)) 𝒱 (P ids R) v₀ 0 := by
  intro d c i O W hO _ _
  simp only [show (P ids R).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_run ids R d (coordsOf ⟨_, hci.1⟩ ⟨_, hci.2⟩) facts hin O W hO).trans (wp_mono frame _ _ fun _ => waits_weaken)

/-- What a SparseCore takes is what its tiles take, and what it brings back is what they do. -/
theorem vecSplit : (K (F := F)).VecSplit' (P ids R) 0 := by
  intro d c
  show (bigSep Finset.univ fun i : Fin 16 => iprop(scorePts R d (tileBlock (Fin.cast nCore_zero c) i)
        ∗ listPts ids d (tileBlock (Fin.cast nCore_zero c) i) ∗ outPts d (tileBlock (Fin.cast nCore_zero c) i)) : sProp 𝕄) ⊢ |={Set.univ}=> iprop(
      (bigSep Finset.univ fun i : Fin 16 => iprop(scorePts R d (tileBlock (Fin.cast nCore_zero c) i)
        ∗ listPts ids d (tileBlock (Fin.cast nCore_zero c) i) ∗ outPts d (tileBlock (Fin.cast nCore_zero c) i)))
      ∗ ((bigSep Finset.univ fun i : Fin 16 => donePts ids R d (tileBlock (Fin.cast nCore_zero c) i))
          -∗ bigSep Finset.univ fun i : Fin 16 => donePts ids R d (tileBlock (Fin.cast nCore_zero c) i)))
  iintro H; imodintro
  isplitl [H]; · iexact H
  iintro H; iexact H

end Cert.Proof.Score

end
-- ==== Proof.Deal.lean ====
module

public import proofs.«01_k».proof.Proof.Tile
public import Idealize.SL.ProofMode.BigOp

/-! The gathering call's operands dealt to the thirty-two tiles, and their results joined. -/

@[expose] public section

noncomputable section

namespace Cert.Proof.Score

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (ids : Items F) (R : ScoreRel F)

/-- The tiles of the two SparseCores are the thirty-two blocks. -/
def tileEquiv : Fin 2 × Fin 16 ≃ Fin 32 :=
  Equiv.ofBijective (fun p => tileBlock p.1 p.2)
    ⟨fun p q h => Prod.ext (tileBlock_injective h).1 (tileBlock_injective h).2, fun k => by
      obtain ⟨c, i, h⟩ := tileBlock_surjective k
      exact ⟨(c, i), h⟩⟩

/-- A conjunction over the blocks is one over the SparseCores and their tiles. -/
theorem bigSep_tiles (Ψ : Fin 32 → sProp 𝕄) :
    bigSep Finset.univ Ψ
      = bigSep Finset.univ fun c : Fin ((K (F := F)).nCore 0) => bigSep Finset.univ fun i : Fin 16 => Ψ (tileBlock (Fin.cast nCore_zero c) i) := by
  rw [bigSep_univ_equiv tileEquiv, bigSep_univ_prod]
  rfl

/-- The blocks are disjoint and cover the list. -/
theorem blocks_disjoint : ∀ k ∈ (Finset.univ : Finset (Fin 32)), ∀ k' ∈ (Finset.univ : Finset (Fin 32)), k ≠ k' → Disjoint (blockSet k) (blockSet k') :=
  fun _ _ _ _ h => Rect.part_disjoint blocks_div h
theorem blocks_cover : (Finset.univ : Finset (Fin 32)).biUnion blockSet = Finset.univ := Rect.biUnion_part blocks_div

/-- A list held whole is held block by block. -/
theorem list_blocks (d : Dev nD) (f : Buf (Elt F) (listLoc d)) :
    (listLoc d ↦{fullShare} f : sProp 𝕄) = bigSep Finset.univ fun k : Fin 32 => listLoc d ↦[blockSet k]{fullShare} f := by
  rw [← pointsTo_biUnion Finset.univ (ℓ := listLoc d) blockSet blocks_disjoint, blocks_cover]
theorem out_blocks (d : Dev nD) (f : Buf (Elt F) (outLoc d)) :
    (outLoc d ↦{fullShare} f : sProp 𝕄) = bigSep Finset.univ fun k : Fin 32 => outLoc d ↦[blockSet k]{fullShare} f := by
  rw [← pointsTo_biUnion Finset.univ (ℓ := outLoc d) blockSet blocks_disjoint, blocks_cover]

/-- The scores, the list and the result's array, each whole, are what the call's tiles are given. -/
theorem deal (d : Dev nD) (f : Buf (Elt F) (scoreLoc d)) (hf : IsScores R d f) (g : Buf (Elt F) (outLoc d)) :
    iprop((scoreLoc d ↦{fullShare} f) ∗ (listLoc d ↦{fullShare} ids d) ∗ outLoc d ↦{fullShare} g)
      ⊢ bigSep Finset.univ fun c : Fin ((K (F := F)).nCore 0) => (P ids R).st 0 d c := by
  show _ ⊢ bigSep Finset.univ fun c : Fin ((K (F := F)).nCore 0) => bigSep Finset.univ fun i : Fin 16 =>
    iprop(scorePts R d (tileBlock (Fin.cast nCore_zero c) i) ∗ listPts ids d (tileBlock (Fin.cast nCore_zero c) i) ∗ outPts d (tileBlock (Fin.cast nCore_zero c) i))
  rw [← bigSep_tiles fun k => iprop(scorePts R d k ∗ listPts ids d k ∗ outPts d k), bigSep_sep', bigSep_sep', list_blocks, out_blocks,
    pointsTo_piecesOf Finset.univ f (show 0 < 32 by decide) fullShare]
  have hs : (bigSep Finset.univ fun k : Fin 32 => (scoreLoc d ↦{scoreShare k} f : sProp 𝕄)) ⊢ bigSep Finset.univ fun k => scorePts R d k :=
    bigSep_mono fun k _ => by
      show (scoreLoc d ↦{scoreShare k} f : sProp 𝕄) ⊢ scorePts R d k
      iintro H
      iexists f
      isplitr
      · ipureintro; exact hf
      iexact H
  have ho : (bigSep Finset.univ fun k : Fin 32 => (outLoc d ↦[blockSet k]{fullShare} g : sProp 𝕄)) ⊢ bigSep Finset.univ fun k => outPts d k :=
    bigSep_mono fun k _ => by
      show (outLoc d ↦[blockSet k]{fullShare} g : sProp 𝕄) ⊢ outPts d k
      iintro H
      iexists g
      iexact H
  iintro ⟨Hs, Hl, Ho⟩
  isplitl [Hs]
  · iapply hs $$ Hs
  isplitl [Hl]
  · iexact Hl
  iapply ho $$ Ho

/-- What the tiles give back is the result's array whole, every element a score of the item listed at its place. -/
theorem join (d : Dev nD) :
    (bigSep Finset.univ fun c : Fin ((K (F := F)).nCore 0) => (P ids R).dn 0 d c)
      ⊢ iprop(∃ g : Buf (Elt F) (outLoc d), ⌜∀ j, IsScoreOf ids R d j (g j)⌝ ∗ outLoc d ↦{fullShare} g) := by
  show (bigSep Finset.univ fun c : Fin ((K (F := F)).nCore 0) => bigSep Finset.univ fun i : Fin 16 => donePts ids R d (tileBlock (Fin.cast nCore_zero c) i)) ⊢ _
  rw [← bigSep_tiles fun k => donePts ids R d k]
  iintro H
  ihave H1 := (bigSep_exists_pi (Finset.univ : Finset (Fin 32)) fun k (g : Buf (Elt F) (outLoc d)) =>
    iprop(⌜∀ j ∈ blockSet k, IsScoreOf ids R d j (g j)⌝ ∗ outLoc d ↦[blockSet k]{fullShare} g)) $$ H
  icases H1 with ⟨%gs, H⟩
  ihave H2 := (bigSep_pure_sep (Finset.univ : Finset (Fin 32)) (fun k => ∀ j ∈ blockSet k, IsScoreOf ids R d j (gs k j))
    fun k => (outLoc d ↦[blockSet k]{fullShare} gs k : sProp 𝕄)) $$ H
  icases H2 with ⟨%hgs, H⟩
  ihave H3 := (pointsTo_biUnion_join (Finset.univ : Finset (Fin 32)) blockSet gs (gs 0) blocks_disjoint) $$ H
  icases H3 with ⟨%g, %hg, H⟩
  rw [blocks_cover]
  iexists g
  isplitr
  · ipureintro
    intro j
    obtain ⟨k, hk⟩ := Rect.exists_mem_part blocks_div j
    rw [hg k (Finset.mem_univ k) j hk]
    exact hgs k (Finset.mem_univ k) j hk
  iexact H

end Cert.Proof.Score

end
-- ==== Proof.Run.lean ====
module

public import proofs.«01_k».proof.Proof.Host
public import proofs.«01_k».proof.Proof.Deal

/-! The program's run, over any reading of the floats: main's steps in order, the launch, and what the final memory
    holds. -/

@[expose] public section

noncomputable section

namespace Cert.Proof.Score

open Cert.KernelIdeal Cert.KernelIdeal.Gen

open Idealize.ShloMosaic
open Idealize.ShloMosaic.SparseCore (V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays' contents along main -/

/-- The transposed training scores. -/
def trainT (d : Dev nD) : S100000x1024.Idx → Elt F .f32 :=
  transpose S100000x1024 [1, 0] (m (trainLoc d)) transposes_S1024x100000_S100000x1024_1_0
/-- The transposed item numbers. -/
def itemsT (d : Dev nD) : S200x1024.Idx → Elt F .i32 :=
  transpose S200x1024 [1, 0] (m (itemsLoc d)) transposes_S1024x200_S200x1024_1_0
/-- The item numbers as one list. -/
def ids : Items F := fun d => shapeCast S204800 (itemsT m d) shapeCasts_S200x1024_S204800
/-- What is known of the scores: item `x`'s is a sum the body may leave for column `x`. -/
def Rel : ScoreRel F := fun d x v => GoodAt (trainT m d) (x 0) v
/-- The tiles' list `o` as main lays it out in the result. -/
def laidOut (o : S204800.Idx → Elt F .f32) : S1024x200.Idx → Elt F .f32 :=
  transpose S1024x200 [1, 0] (shapeCast S200x1024 o shapeCasts_S204800_S200x1024) transposes_S200x1024_S1024x200_1_0
/-- `g` is a result of the program: a list of scores of the listed items, laid out. -/
def IsResult (d : Dev nD) (g : S1024x200.Idx → Elt F .f32) : Prop :=
  ∃ o : S204800.Idx → Elt F .f32, (∀ j, IsScoreOf (ids m) (Rel m) d j (o j)) ∧ g = laidOut o

/-- Main's arrays once the training scores are transposed. -/
def V₁ : Val0 F := fun c => Function.update (fun b => m ((c.tc : Thread nD τ).loc b)) main_v0 (trainT m c)

theorem V₁_v0 (d : Dev nD) : V₁ m d main_v0 = trainT m d := Function.update_self _ _ _
theorem V₁_ne (d : Dev nD) (b : Ref sig .tc) (h : b ≠ main_v0) : V₁ m d b = m ((d.tc : Thread nD τ).loc b) := Function.update_of_ne h _ _

/-- Main's arrays one by one: the two arguments, the two the summing region reads and writes, and the rest. -/
theorem unscoped_eq (d : Dev nD) (W : (b : Ref sig .tc) → Buf (Elt F) ((d.tc : Thread nD τ).loc b)) :
    (unscopedBufs d W : sProp 𝕄) = iprop(((SparseCore.T d).loc main_v0 ↦{fullShare} W main_v0) ∗ ((SparseCore.T d).loc main_v1 ↦{fullShare} W main_v1)
      ∗ Pipeline.unscopedRest spec0 d W) := by
  rw [unscopedRest0_eq]
  unfold unscopedBufs
  rw [show (Finset.univ.filter fun b : Ref sig .tc => ¬ b.isScoped)
      = {main_v0, main_v1, main_arg0, main_arg1, main_v2, main_v3, main_v4, main_v5, main_v6, main_v7} by decide]
  iterate 9 rw [SparseCore.bigSep_insert' (by decide)]
  rw [bigSep_singleton]

/-- A result reshaped from the region's row of sums is a list of scores. -/
theorem scores_of_sums (d : Dev nD) (G : S1x100000.Idx → Elt F .f32) (hG : ∀ y : S1x100000.Idx, GoodAt (V₁ m d main_v0) (y 1) (G y)) :
    IsScores (Rel m) d (shapeCast S100000 G shapeCasts_S1x100000_S100000) := by
  intro x
  have h := hG ((Fin.cons (0 : Fin 1) x : S1x100000.Idx))
  rw [V₁_v0] at h
  have e : shapeCast S100000 G shapeCasts_S1x100000_S100000 x = G (Fin.cons (0 : Fin 1) x : S1x100000.Idx) :=
    shapeCast_apply G _ x _ (by rw [Shape.rowMajor_val_one, Shape.rowMajor_val_two]; simp; rfl)
  rw [e]
  exact h

/-! ## Main -/

/-- What main keeps to the end: the arguments as they were and a result. -/
def FIN (d : Dev nD) : sProp 𝕄 :=
  iprop((trainLoc d ↦{fullShare} m (trainLoc d)) ∗ (itemsLoc d ↦{fullShare} m (itemsLoc d))
    ∗ ∃ g : Buf (Elt F) ((SparseCore.T d).loc main_v7), ⌜IsResult m d g⌝ ∗ (SparseCore.T d).loc main_v7 ↦{fullShare} g)

/-- What the summing region's transfers need of the launch. -/
def G (d : Dev nD) : sProp 𝕄 :=
  iprop(Pipeline.cellsGhost (Pipeline.pin (pcfgs (F := F)) fun p => (cfgs p).toPCfg_adm) EP 0 d
    ∗ Pipeline.toksInit (Pipeline.pin (pcfgs (F := F)) fun p => (cfgs p).toPCfg_adm) EP 0 d)

/-- What the device owes before the gathering call, out of its state there. -/
theorem tcSt_debt (d : Dev nD) : ((K (F := F)).tcSt EH d 0 : sProp 𝕄) ⊢ iprop(debt d ∗ (debt d -∗ (K (F := F)).tcSt EH d 0)) := by
  unfold SparseCore.Cfg.tcSt debt
  iintro ⟨HO, Hr⟩
  isplitl [HO]
  · iexact HO
  iintro HO
  isplitl [HO]
  · iexact HO
  iexact Hr

/-- Main on device `d`'s TensorCore. -/
theorem hmain (κ : GSem nD τ sig → ℕ) (d : Dev nD) :
    iprop((K (F := F)).ctx EH (P (ids m) (Rel m)) κ ∗ (K (F := F)).tcSt EH d 0 ∗ (K (F := F)).tcRes m ρ d ∗ G d)
      ⊢ wp frame (wpE (SparseCore.Cfg.defs (K (F := F)) (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [unscoped_eq, unscopedRest0_eq]
  simp only [main, wp_bind, wp_pure]
  iintro ⟨#Hctx, Hst, ⟨Hb, ⟨H0, H1, Ha, Hi, H2, H3, H4, H5, H6, H7⟩, Hts, -⟩, ⟨Hg, Htk⟩⟩
  ihave #Hlev := ((K (F := F)).ctx_levAts κ) $$ Hctx
  -- the training scores transposed
  iapply (wp_host d (fun b => m (d, b)) main_arg0 main_v0 _ rfl (by decide) rfl (m (trainLoc d)) (trainT m d)
    (fun V h => by rw [StableHlo.unary_result', h]; rfl) (fun V => StableHlo.unary_result_ne' _ _ _ V (by decide)) _ _)
  isplitl [Hb]
  · iexact Hb
  isplitl [Ha]
  · iexact Ha
  isplitl [H0]
  · iexists (m ((SparseCore.T d).loc main_v0))
    iexact H0
  iintro ⟨Hb, Ha, H0⟩
  -- the column sums
  ihave Hst' := (tcSt_debt d) $$ Hst
  icases Hst' with ⟨HO, Hst⟩
  iapply (wp_sums (V₁ m) d _)
  isplitr [Hb Ha Hi H0 H1 H2 H3 H4 H5 H6 H7 HO Hg Htk]
  rotate_left
  · isplitl [Hb]
    · iexact Hb
    isplitl [Ha Hi H0 H1 H2 H3 H4 H5 H6 H7 HO]
    · isplitr [HO]
      · rw [unscoped_eq, unscopedRest0_eq, V₁_v0, V₁_ne m d main_v1 (by decide), V₁_ne m d main_arg0 (by decide), V₁_ne m d main_arg1 (by decide),
          V₁_ne m d main_v2 (by decide), V₁_ne m d main_v3 (by decide), V₁_ne m d main_v4 (by decide), V₁_ne m d main_v5 (by decide),
          V₁_ne m d main_v6 (by decide), V₁_ne m d main_v7 (by decide)]
        isplitl [H0]
        · iexact H0
        isplitl [H1]
        · iexact H1
        isplitl [Ha]
        · iexact Ha
        isplitl [Hi]
        · iexact Hi
        isplitl [H2]
        · iexact H2
        isplitl [H3]
        · iexact H3
        isplitl [H4]
        · iexact H4
        isplitl [H5]
        · iexact H5
        isplitl [H6]
        · iexact H6
        iexact H7
      iexact HO
    isplitr
    · iexact Hlev
    isplitl [Hg]
    · iexact Hg
    iexact Htk
  rw [unscopedRest0_eq, V₁_ne m d main_arg0 (by decide), V₁_ne m d main_arg1 (by decide),
    V₁_ne m d main_v2 (by decide), V₁_ne m d main_v3 (by decide), V₁_ne m d main_v4 (by decide), V₁_ne m d main_v5 (by decide),
    V₁_ne m d main_v6 (by decide), V₁_ne m d main_v7 (by decide)]
  unfold sumsPts
  iintro ⟨Hb, ⟨%S, %hS, H1⟩, ⟨Ha, Hi, H2, H3, H4, H5, H6, H7⟩, HO⟩
  ihave Hst := Hst $$ HO
  -- the sums as one list of scores
  iapply (wp_host d (fun b => m (d, b)) main_v1 main_v2 _ rfl (by decide) rfl S (shapeCast S100000 S shapeCasts_S1x100000_S100000)
    (fun V h => by rw [StableHlo.reshape_result', h]; rfl) (fun V => StableHlo.reshape_result_ne' _ _ _ _ V (by decide)) _ _)
  isplitl [Hb]
  · iexact Hb
  isplitl [H1]
  · iexact H1
  isplitl [H2]
  · iexists (m ((SparseCore.T d).loc main_v2))
    iexact H2
  iintro ⟨Hb, -, H2⟩
  -- the item numbers transposed, then as one list
  iapply (wp_host d (fun b => m (d, b)) main_arg1 main_v3 _ rfl (by decide) rfl (m (itemsLoc d)) (itemsT m d)
    (fun V h => by rw [StableHlo.unary_result', h]; rfl) (fun V => StableHlo.unary_result_ne' _ _ _ V (by decide)) _ _)
  isplitl [Hb]
  · iexact Hb
  isplitl [Hi]
  · iexact Hi
  isplitl [H3]
  · iexists (m ((SparseCore.T d).loc main_v3))
    iexact H3
  iintro ⟨Hb, Hi, H3⟩
  iapply (wp_host d (fun b => m (d, b)) main_v3 main_v4 _ rfl (by decide) rfl (itemsT m d) (ids m d)
    (fun V h => by rw [StableHlo.reshape_result', h]; rfl) (fun V => StableHlo.reshape_result_ne' _ _ _ _ V (by decide)) _ _)
  isplitl [Hb]
  · iexact Hb
  isplitl [H3]
  · iexact H3
  isplitl [H4]
  · iexists (m ((SparseCore.T d).loc main_v4))
    iexact H4
  iintro ⟨Hb, -, H4⟩
  -- the gathering call
  iapply ((K (F := F)).wp_run (D (F := F)) 𝒱 (EH := EH) (P := P (ids m) (Rel m)) κ d 0) $$ [Hst Ha Hi H2 H4 H5 H6 H7 Hb Hts]
  isplitr
  · iexact Hctx
  isplitl [Hst]
  · iexact Hst
  isplitl [H2 H4 H5]
  · iapply (deal (ids m) (Rel m) d _ (scores_of_sums m d S hS) (m (outLoc d)))
    isplitl [H2]
    · iexact H2
    isplitl [H4]
    · iexact H4
    iexact H5
  iintro ⟨Hst, Hdn⟩
  ihave Hj := (join (ids m) (Rel m) d) $$ Hdn
  icases Hj with ⟨%o, %ho, H5⟩
  -- the tiles' list laid out in the result
  iapply (wp_host d (fun b => m (d, b)) main_v5 main_v6 _ rfl (by decide) rfl o (shapeCast S200x1024 o shapeCasts_S204800_S200x1024)
    (fun V h => by rw [StableHlo.reshape_result', h]; rfl) (fun V => StableHlo.reshape_result_ne' _ _ _ _ V (by decide)) _ _)
  isplitl [Hb]
  · iexact Hb
  isplitl [H5]
  · iexact H5
  isplitl [H6]
  · iexists (m ((SparseCore.T d).loc main_v6))
    iexact H6
  iintro ⟨Hb, -, H6⟩
  iapply (wp_host d (fun b => m (d, b)) main_v6 main_v7 _ rfl (by decide) rfl (shapeCast S200x1024 o shapeCasts_S204800_S200x1024) (laidOut o)
    (fun V h => by rw [StableHlo.unary_result', h]; rfl) (fun V => StableHlo.unary_result_ne' _ _ _ V (by decide)) _ _)
  isplitl [Hb]
  · iexact Hb
  isplitl [H6]
  · iexact H6
  isplitl [H7]
  · iexists (m ((SparseCore.T d).loc main_v7))
    iexact H7
  iintro ⟨Hb, -, H7⟩
  imodintro
  isplitl [Hst]
  · iexact Hst
  isplitr [Hb Hts]
  · unfold FIN
    isplitl [Ha]
    · iexact Ha
    isplitl [Hi]
    · iexact Hi
    iexists (laidOut o)
    isplitr
    · ipureintro; exact ⟨o, ho, rfl⟩
    iexact H7
  isplitl [Hb]
  · iexact Hb
  iexact Hts

/-! ## The launch -/

/-- The ghost state the launch starts from: the call's handshakes and the summing region's transfers. -/
def u₀ : UU :=
  (initOf (K (F := F)).hsCells (K (F := F)).hsToks,
    (initOf (Pipeline.cells (Pipeline.pin (pcfgs (F := F)) fun p => (cfgs p).toPCfg_adm) cellOf_inj)
      (Pipeline.launchToks (Pipeline.pin (pcfgs (F := F)) fun p => (cfgs p).toPCfg_adm) cellOf_inj), 1))

/-- It gives the handshakes' part, every device's part of the region's, and nothing more for any thread. -/
theorem hu₀ : (ownU (u₀ (F := F)) : sProp 𝕄)
    ⊢ |={Set.univ}=> iprop(BI.own (EH (initOf (K (F := F)).hsCells (K (F := F)).hsToks)) ∗ (bigSep Finset.univ fun d => G (F := F) d)
        ∗ bigSep Finset.univ fun thr : Thread nD τ => bigSep Finset.univ fun q : Fin 1 => (P (ids m) (Rel m)).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (Pipeline.fund_ghost (Pipeline.pin (pcfgs (F := F)) fun p => (cfgs p).toPCfg_adm) EP cellOf_inj) $$ HP with ⟨Hg, Ht⟩
  imodintro
  isplitl [HH]
  · iexact HH
  isplitl [Hg Ht]
  · unfold G
    rw [bigSep_sep']
    isplitl [Hg]
    · rw [show (bigSep Finset.univ fun d : Dev nD => Pipeline.cellsGhost (Pipeline.pin (pcfgs (F := F)) fun p => (cfgs p).toPCfg_adm) EP 0 d : sProp 𝕄)
        = bigSep Finset.univ fun d => bigSep Finset.univ fun p => Pipeline.cellsGhost (Pipeline.pin (pcfgs (F := F)) fun p => (cfgs p).toPCfg_adm) EP p d from
        bigSep_congr fun d _ => (bigSep_univ_of_subsingleton (Φ := fun p => Pipeline.cellsGhost (Pipeline.pin (pcfgs (F := F)) fun p => (cfgs p).toPCfg_adm) EP p d) 0).symm]
      iexact Hg
    · rw [show (bigSep Finset.univ fun d : Dev nD => Pipeline.toksInit (Pipeline.pin (pcfgs (F := F)) fun p => (cfgs p).toPCfg_adm) EP 0 d : sProp 𝕄)
        = bigSep Finset.univ fun d => bigSep Finset.univ fun p => Pipeline.toksInit (Pipeline.pin (pcfgs (F := F)) fun p => (cfgs p).toPCfg_adm) EP p d from
        bigSep_congr fun d _ => (bigSep_univ_of_subsingleton (Φ := fun p => Pipeline.toksInit (Pipeline.pin (pcfgs (F := F)) fun p => (cfgs p).toPCfg_adm) EP p d) 0).symm]
      iexact Ht
  rw [show (bigSep Finset.univ fun thr : Thread nD τ => bigSep Finset.univ fun q : Fin 1 => (P (ids m) (Rel m)).x q thr)
      = (bigSep Finset.univ fun _ => iprop(emp) : sProp 𝕄) from bigSep_congr fun _ _ => bigSep_univ_of_subsingleton (0 : Fin 1)]
  rw [show (bigSep Finset.univ fun _ : Thread nD τ => iprop(emp) : sProp 𝕄) = iprop(emp) from bigSep_emp_const _]
  iempintro

/-! ## The final memory -/

/-- What device `d`'s final memory holds: the arguments as they were and a result. -/
def fq (d : Dev nD) (s' : Phys nD τ sig (Elt F)) : Prop :=
  s'.mem.mem (trainLoc d) = m (trainLoc d) ∧ s'.mem.mem (itemsLoc d) = m (itemsLoc d)
    ∧ IsResult m d (s'.mem.mem ((SparseCore.T d).loc main_v7))

set_option maxRecDepth 16384 in
/-- A memory that agrees with what main keeps is such a memory. -/
theorem hfin (d : Dev nD) (s' : Phys nD τ sig (Elt F)) : iprop(FIN m d ∗ SI s') ⊢ (⌜fq m d s'⌝ : sProp 𝕄) := by
  unfold FIN
  iintro ⟨⟨Ha, Hi, %g, %hg, Ho⟩, HSI⟩
  ihave H := (persistent_entails_right (SI_pointsTo_agree (st := s') (ℓ := trainLoc d) (I := Finset.univ) (q := fullShare) (f := m (trainLoc d)))) $$ [HSI Ha]
  · isplitl [HSI] <;> iassumption
  icases H with ⟨%h1, HSI, -⟩
  ihave H := (persistent_entails_right (SI_pointsTo_agree (st := s') (ℓ := itemsLoc d) (I := Finset.univ) (q := fullShare) (f := m (itemsLoc d)))) $$ [HSI Hi]
  · isplitl [HSI] <;> iassumption
  icases H with ⟨%h2, HSI, -⟩
  ihave H := (SI_pointsTo_agree (st := s') (ℓ := (SparseCore.T d).loc main_v7) (I := Finset.univ) (q := fullShare) (f := g)) $$ [HSI Ho]
  · isplitl [HSI] <;> iassumption
  icases H with %h3
  ipureintro
  refine ⟨funext fun i => h1 i (Finset.mem_univ i), funext fun i => h2 i (Finset.mem_univ i), ?_⟩
  rw [show s'.mem.mem ((SparseCore.T d).loc main_v7) = g from funext fun i => h3 i (Finset.mem_univ i)]
  exact hg

/-- What the program ends with: on every device the arguments as they were and a result, and every counter zero. -/
def QC : PUnit × MemSt nD τ sig (Elt F) → Prop := fun r =>
  (∀ c : Dev nD, r.2.mem (trainLoc c) = m (trainLoc c) ∧ r.2.mem (itemsLoc c) = m (itemsLoc c)
    ∧ IsResult m c (r.2.mem ((SparseCore.T c).loc main_v7))) ∧ r.2.sem = fun _ => 0

/-- The program run from a memory whose item numbers are in range. -/
theorem run_main [∀ e, Nonempty (Elt F e)] (hin : InRange (ids m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ids m) (Rel m)) (A := ∅) facts v₀
    (fun q hq => match q with | 0 => nomatch hq)
    (fun q _ => match q with | 0 => tile_obl (ids m) (Rel m) hin)
    (fun q _ => match q with | 0 => SparseCore.Cfg.VecSplit.of_plain (vecSplit (ids m) (Rel m)))
    m ρ main (fun d => G d) (FIN m) (u₀ (F := F)) (sep_elim_left.trans (hu₀ m)) (hmain m ρ) (fq m) (hfin m) (QC m) (fun _ h hz => ⟨h, hz⟩)

end Cert.Proof.Score

end
-- ==== Proof.Items.lean ====
module

public import proofs.«01_k».proof.Proof.Run
public import proofs.«01_k».proof.Pre_in_range
public import Idealize.ShloMosaic.Lib.ReduceAll
public import Idealize.ShloMosaic.Lib.Affine
public import Idealize.ShloMosaic.Lib.Pointwise

/-! What the precondition says of the item numbers: each is a number of an item, and so is each word of the list that
    the tiles read. -/

@[expose] public section

noncomputable section

namespace Cert.Proof.Score

open Cert.KernelIdeal Cert.KernelIdeal.Gen
open Idealize.ShloMosaic

variable {F : FTy → Type} [FloatOps F]

/-- A word that is at least 0 and below 100000 as a signed number is below 100000 as it stands. -/
theorem word_lt (w : BitVec 32) (h0 : (0#32 : BitVec 32).toInt ≤ w.toInt) (h1 : w.toInt < (100000#32 : BitVec 32).toInt) : w.toNat < 100000 := by
  rw [show (0#32 : BitVec 32).toInt = 0 by decide] at h0
  rw [show (100000#32 : BitVec 32).toInt = 100000 by decide] at h1
  rw [BitVec.toInt_eq_toNat_cond] at h0 h1
  split at h0 <;> omega

/-- Under the precondition every item number is below 100000. -/
theorem items_lt [Cert.Pre_in_range.Facts] (x : FVec F S1024x100000 .f32) (y : IVec S1024x200 32)
    (h : Cert.Pre_in_range.fn (F := F) x y = fun _ => 1#1) (i : S1024x200.Idx) : (y i).toNat < 100000 := by
  have e := congrFun h (fun a => a.elim0)
  dsimp only [Cert.Pre_in_range.fn] at e
  haveI : Subsingleton Cert.Pre_in_range.S_.Idx := ⟨fun a b => funext fun q => q.elim0⟩
  have hi := Host.reduce_andi_all _ _ _ _ _ e i
  obtain ⟨h0, h1⟩ := IntOp.andi_eq_one.1 hi
  exact word_lt _ (IntOp.cmpi_sge.1 h0) (IntOp.cmpi_slt.1 h1)

/-- Place `j` of the list holds the item number of user `j % 1024` at candidate `j / 1024`. -/
theorem ids_at (m : (ℓ : Loc nD τ sig) → Buf (Elt F) ℓ) (d : Dev nD) (u : Fin 1024) (k : Fin 200) :
    ids m d (ix1 ⟨k.val * 1024 + u.val, by omega⟩) = m (itemsLoc d) (ix2 u k) := by
  unfold ids itemsT
  refine (shapeCast_apply _ _ _ (ix2 k u) ?_).trans (transpose_apply _ _ _ _ _ fun b => ?_)
  · rw [Shape.rowMajor_val_two, Shape.rowMajor_val_one]; rfl
  · match b with
    | 0 => rfl
    | 1 => rfl
    | ⟨_ + 2, h⟩ => exact absurd h (Nat.not_lt.2 (Nat.le_add_left _ _))

/-- If every item number is below 100000, so is every word of the tiles' list. -/
theorem ids_inRange (m : (ℓ : Loc nD τ sig) → Buf (Elt F) ℓ)
    (h : ∀ (d : Dev nD) (i : S1024x200.Idx), ((m (itemsLoc d) : S1024x200.Idx → BitVec 32) i).toNat < 100000) : InRange (ids m) :=
  fun d j => h d _

end Cert.Proof.Score

end
-- ==== Proof.Sum.lean ====
module

public import proofs.«01_k».proof.Proof.Region
public import Idealize.ShloMosaic.Lib.Pointwise

/-! Over the extended reals: a sum that the region's body may leave for an item is the sum of that item's row. -/

@[expose] public section

noncomputable section

namespace Cert.Proof.Score

open Cert.KernelIdeal Cert.KernelIdeal.Gen
open Idealize.ShloMosaic

/-- The window of the training scores at point `t`: rows `2560 t` on, as many as are left up to 2560, and every column. -/
theorem in_block : ∀ t : Fin cfg0.N, win0_0.index t 0 = t.val ∧ win0_0.index t 1 = 0
    ∧ win0_0.xsize (grid0.coords t) 0 = min 2560 (100000 - 2560 * t.val) ∧ win0_0.xsize (grid0.coords t) 1 = 1024 := by decide +kernel

/-- The row of item `n` in the block that is fetched for it is the item's row, whatever the buffer held before. -/
theorem fetched_row (x : S100000x1024.Idx → Elt Ideal .f32) (n : Fin 100000) (dd : S2560x1024.Idx → Elt Ideal .f32) (u : Fin 1024) :
    fetchedBlk x (ptOf n) dd (ix2 ⟨n.val % 2560, Nat.mod_lt _ (by decide)⟩ u) = x (ix2 n u) := by
  obtain ⟨i0, i1, s0, s1⟩ := in_block (ptOf n)
  have hp : (ptOf n).val = n.val / 2560 := rfl
  have hn := n.isLt
  let z : (win0_0.xblock (grid0.coords (ptOf n))).Idx := fun a => match a with
    | 0 => ⟨n.val % 2560, by show n.val % 2560 < win0_0.xsize (grid0.coords (ptOf n)) 0; rw [s0, hp]; omega⟩
    | 1 => ⟨u.val, by show u.val < win0_0.xsize (grid0.coords (ptOf n)) 1; rw [s1]; exact u.isLt⟩
    | ⟨_ + 2, h⟩ => absurd h (Nat.not_lt.2 (Nat.le_add_left _ _))
  have hz : win0_0.xinj (grid0.coords (ptOf n)) z = ix2 ⟨n.val % 2560, Nat.mod_lt _ (by decide)⟩ u := by
    funext a
    match a with
    | 0 => rfl
    | 1 => rfl
    | ⟨_ + 2, h⟩ => exact absurd h (Nat.not_lt.2 (Nat.le_add_left _ _))
  unfold fetchedBlk
  rw [← hz, win0_0.fill_xinj]
  show x ((win0_0.rect (ptOf n)).emb z) = _
  congr 1
  funext a
  match a with
  | 0 =>
    refine Fin.ext ?_
    rw [Rect.emb_apply]
    show win0_0.index (ptOf n) 0 * 2560 + 1 * (n.val % 2560) = n.val
    rw [i0, hp]
    omega
  | 1 =>
    refine Fin.ext ?_
    rw [Rect.emb_apply]
    show win0_0.index (ptOf n) 1 * 1024 + 1 * u.val = u.val
    rw [i1]
    omega
  | ⟨_ + 2, h⟩ => exact absurd h (Nat.not_lt.2 (Nat.le_add_left _ _))

/-- The body's product of a row of ones with a block is, at column `c`, the sum of the block's row `c`. -/
theorem pay_sum (v : S2560x1024.Idx → Elt Ideal .f32) (c : Fin 2560) : k0_pay1 (F := Ideal) v (ix2 0 c) = ∑ u : Fin 1024, (v (ix2 c u) : EReal) := by
  pointwise [k0_pay1]

/-- A sum the body may leave for item `n` is the sum of the item's row. -/
theorem good_sum (x : S100000x1024.Idx → Elt Ideal .f32) (n : Fin 100000) (v : Elt Ideal .f32) (h : GoodAt (F := Ideal) x n v) :
    v = ∑ u : Fin 1024, (x (ix2 n u) : EReal) := by
  obtain ⟨dd, rfl⟩ := h
  have hc : colOf n = ix2 0 ⟨n.val % 2560, Nat.mod_lt _ (by decide)⟩ := by
    funext a
    match a with
    | 0 => rfl
    | 1 => rfl
    | ⟨_ + 2, h⟩ => exact absurd h (Nat.not_lt.2 (Nat.le_add_left _ _))
  rw [hc, pay_sum]
  exact Finset.sum_congr rfl fun u _ => fetched_row x n dd u

end Cert.Proof.Score

end
-- ==== Proof.Result.lean ====
module

public import proofs.«01_k».proof.Proof.Items
public import proofs.«01_k».proof.Proof.Sum

/-! The kernel's result over the extended reals: at user `u` and candidate `k`, the sum over all users of the training
    scores of the item that `u`'s candidate `k` names. -/

@[expose] public section

noncomputable section

namespace Cert.Proof.Score

open Cert.KernelIdeal Cert.KernelIdeal.Gen
open Idealize.ShloMosaic

/-- Place `(u, k)` of the result holds place `1024 k + u` of the tiles' list. -/
theorem laidOut_at {F : FTy → Type} [FloatOps F] (o : S204800.Idx → Elt F .f32) (u : Fin 1024) (k : Fin 200) :
    laidOut o (ix2 u k) = o (ix1 ⟨k.val * 1024 + u.val, by omega⟩) := by
  unfold laidOut
  refine (transpose_apply _ _ _ _ (ix2 k u) fun b => ?_).trans (shapeCast_apply _ _ _ _ ?_)
  · match b with
    | 0 => rfl
    | 1 => rfl
    | ⟨_ + 2, h⟩ => exact absurd h (Nat.not_lt.2 (Nat.le_add_left _ _))
  · rw [Shape.rowMajor_val_two, Shape.rowMajor_val_one]; rfl

/-- The score of item `n`: the sum of its column of the training scores. -/
def colSum (x : S1024x100000.Idx → EReal) (n : Fin 100000) : EReal := ∑ u : Fin 1024, x (ix2 u n)

variable (m : (ℓ : Loc nD τ sig) → Buf (Elt Ideal) ℓ)

/-- A result of the kernel, place by place. -/
theorem result_at (d : Dev nD) (g : S1024x200.Idx → Elt Ideal .f32) (hg : IsResult (F := Ideal) m d g) (u : Fin 1024) (k : Fin 200) (n : Fin 100000)
    (hn : ((m (itemsLoc d) : S1024x200.Idx → BitVec 32) (ix2 u k)).toNat = n.val) : g (ix2 u k) = colSum (m (trainLoc d)) n := by
  obtain ⟨o, ho, rfl⟩ := hg
  rw [laidOut_at]
  have h := ho (ix1 ⟨k.val * 1024 + u.val, by omega⟩) (ix1 n)
    (by rw [show ids m d (ix1 ⟨k.val * 1024 + u.val, by omega⟩) = m (itemsLoc d) (ix2 u k) from ids_at m d u k]; exact hn.symm)
  rw [good_sum _ _ _ h]
  unfold colSum
  refine Finset.sum_congr rfl fun a _ => ?_
  unfold trainT
  refine transpose_apply _ _ _ _ _ fun b => ?_
  match b with
  | 0 => rfl
  | 1 => rfl
  | ⟨_ + 2, h⟩ => exact absurd h (Nat.not_lt.2 (Nat.le_add_left _ _))

end Cert.Proof.Score

end
-- ==== Proof.Reference.lean ====
module

public import proofs.«01_k».proof.Proof.Gen.ReferenceIdeal.Run
public import proofs.«01_k».proof.Proof.Gen.ReferenceIdeal
public import Idealize.ShloMosaic.Lib.ReduceAll
public import Idealize.ShloMosaic.Lib.Affine
public import Idealize.ShloMosaic.Lib.ValueIdxCore
public import Idealize.ShloMosaic.Lib.Pointwise

/-! The reference's result over the extended reals, place by place: where the item number is in range, the sum of that
    item's column of the training scores. -/

@[expose] public section

noncomputable section

namespace Cert.Proof.Score.Ref

open Cert.ReferenceIdeal Cert.ReferenceIdeal.Gen
open Idealize.ShloMosaic

/-- The item numbers as the reference's take reads them: a negative one has the number of items added. -/
def wrapped (y : IVec S1024x200 32) : IVec S1024x200x1 32 :=
  broadcastInDim S1024x200x1 ![0, 1] bcast_S1024x200_S1024x200x1_0_1
    (select (cmpi .slt y (broadcastInDim S1024x200 ![] bcast_S_S1024x200 (constantI S_ 32 0#32)))
      (addi y (broadcastInDim S1024x200 ![] bcast_S_S1024x200 (constantI S_ 32 100000#32))) y)

/-- The bit of each place that says whether its item number is in range. -/
def inside (y : IVec S1024x200 32) : IVec S1024x200 1 :=
  Host.reduce IntOp.andi
    (andi (cmpi .sge (wrapped y) (broadcastInDim S1024x200x1 ![] bcast_S_S1024x200x1 (constantI S_ 32 0#32)))
      (cmpi .sle (wrapped y) (broadcastInDim S1024x200x1 ![0, 1, 2] bcast_S1x1x1_S1024x200x1_0_1_2
        (broadcastInDim S1x1x1 ![2] bcast_S1_S1x1x1_2 (constantI S1 32 99999#32)))))
    (constantI S_ 1 1#1) reducesTo_S1024x200x1_S1024x200_d2 h_S_

/-- The reference's scores: each item's column summed. -/
def scores (x : FVec Ideal S1024x100000 .f32) : FVec Ideal S100000 .f32 :=
  Host.reduceAdd x (constant S_ .f32 0x00000000#32) reducesTo_S1024x100000_S100000_d0 h_S_

/-- The reference's result. -/
def result (x : FVec Ideal S1024x100000 .f32) (y : IVec S1024x200 32) : FVec Ideal S1024x200 .f32 :=
  select (inside y) (Host.gather gather_S100000_S1024x200x1_S1024x200_n_0_n_n_0_2_1 (scores x) (wrapped y))
    (broadcastInDim S1024x200 ![] bcast_S_S1024x200 (constant S_ .f32 0x7FC00000#32))

/-- The reference run: it ends with its result as named and its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

/-- A score, as a sum. -/
theorem scores_at (x : FVec Ideal S1024x100000 .f32) (n : Fin 100000) : scores x (ix1 n) = ∑ u : Fin 1024, (x (ix2 u n) : EReal) := by
  pointwise [scores]

/-- A word in range is not negative. -/
theorem word_toInt (w : BitVec 32) (h : w.toNat < 100000) : w.toInt = w.toNat := by
  rw [BitVec.toInt_eq_toNat_cond, if_pos (by omega)]

/-- An item number in range is read as it stands. -/
theorem wrapped_at (y : IVec S1024x200 32) (i : S1024x200x1.Idx) (h : ∀ j, (y j).toNat < 100000) : wrapped y i = y (ix2 (i 0) (i 1)) := by
  unfold wrapped
  refine (broadcastInDim_apply _ _ _ _ (ix2 (i 0) (i 1)) fun e => ?_).trans ?_
  · match e with
    | 0 => rfl
    | 1 => rfl
    | ⟨_ + 2, h⟩ => exact absurd h (Nat.not_lt.2 (Nat.le_add_left _ _))
  · show Scalar.select (IntOp.cmpi .slt (y (ix2 (i 0) (i 1))) 0#32) _ _ = _
    have hw := h (ix2 (i 0) (i 1))
    refine if_neg fun e => ?_
    have e' := IntOp.cmpi_slt.1 e
    rw [word_toInt _ hw, show (0#32 : BitVec 32).toInt = 0 by decide] at e'
    omega

/-- If every item number is in range, every place's bit is set. -/
theorem inside_at (y : IVec S1024x200 32) (j : S1024x200.Idx) (h : ∀ j, (y j).toNat < 100000) : inside y j = 1#1 := by
  unfold inside
  refine Host.reduce_andi_one _ _ _ _ _ rfl fun i => ?_
  have hw := h (ix2 (i 0) (i 1))
  refine IntOp.andi_eq_one.2 ⟨IntOp.cmpi_sge.2 ?_, IntOp.cmpi_sle.2 ?_⟩
  · show (0#32 : BitVec 32).toInt ≤ (wrapped y i).toInt
    rw [wrapped_at y i h, word_toInt _ hw, show (0#32 : BitVec 32).toInt = 0 by decide]
    omega
  · show (wrapped y i).toInt ≤ (99999#32 : BitVec 32).toInt
    rw [wrapped_at y i h, word_toInt _ hw, show (99999#32 : BitVec 32).toInt = 99999 by decide]
    omega

/-- The reference's result, place by place. -/
theorem result_at (x : FVec Ideal S1024x100000 .f32) (y : IVec S1024x200 32) (h : ∀ j, (y j).toNat < 100000) (u : Fin 1024) (k : Fin 200)
    (n : Fin 100000) (hn : (y (ix2 u k)).toNat = n.val) : result x y (ix2 u k) = ∑ a : Fin 1024, (x (ix2 a n) : EReal) := by
  unfold result
  show Scalar.select (inside y (ix2 u k)) _ _ = _
  refine (if_pos (inside_at y (ix2 u k) h)).trans ?_
  refine (ValueIdx.gather_take_apply (by decide) gather_S100000_S1024x200x1_S1024x200_n_0_n_n_0_2_1_wf (scores x) (wrapped y) (ix2 u k)).trans ?_
  rw [← scores_at]
  congr 1
  funext a
  refine Fin.ext ?_
  obtain rfl : a = 0 := Subsingleton.elim _ _
  show min (wrapped y _).toInt.toNat (100000 - 1) = n.val
  rw [wrapped_at y _ h]
  show min (y (ix2 u k)).toInt.toNat (100000 - 1) = n.val
  have := n.isLt
  rw [word_toInt _ (h _), hn]
  omega

end Cert.Proof.Score.Ref

end
-- ==== Proof.lean ====
/- The proof of the claims about the program: its frames and the reference's, and that the two programs' results agree. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Result
public import proofs.«01_k».proof.Proof.Reference
public import Idealize.ShloMosaic.Adequacy
public import Idealize.ShloMosaic.Init

@[expose] public section

noncomputable section

namespace Cert.Proof

open Idealize.ShloMosaic Idealize.SL.Sem Cert.Proof.Score

/-- The two printed programs have the same kernels. -/
theorem kernels_eq (F : FTy → Type) [FloatOps F] : Cert.Kernel.defs₀ (F := F) = Cert.KernelIdeal.defs₀ (F := F) := by
  funext k ℓ a
  match k, ℓ, a with
  | .tc, 0, (t, s) => rfl
  | .tc, 1, _ => rfl
  | .scVector c s, 1, _ => rfl
  | .scVector c s, 0, _ => rfl
  | .scScalar c, 0, _ => rfl
  | .scScalar c, 1, _ => rfl

/-- So they have the same body table. -/
theorem defs_eq (F : FTy → Type) [FloatOps F] : Cert.Kernel.defs (F := F) = Cert.KernelIdeal.defs (F := F) :=
  congrArg (fun k => Cert.KernelIdeal.sc.defs (Pipeline.defs Cert.KernelIdeal.pcfgs k)) (kernels_eq F)

/-- The program's frame over machine floats, from the one run of it over any reading of the floats. -/
theorem frame_kernel : Cert.quiescent_Kernel := by
  intro m ρ hpre
  rw [defs_eq]
  exact (θ_run (Cert.KernelIdeal.defs (F := Bits)) _ _).mono (fun _ h => ⟨fun c => ⟨(h.1 c).1, (h.1 c).2.1⟩, h.2⟩)
    (run_main (F := Bits) m ρ (ids_inRange m fun d => items_lt _ _ (hpre d)))

/-- Its frame over the extended reals. -/
theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ (ids_inRange m fun d => items_lt _ _ (hpre d)))

/-- The reference's frame, from any memory. -/
theorem frame_reference : Cert.quiescent_ReferenceIdeal := fun m ρ _ =>
  (θ_run Cert.ReferenceIdeal.defs _ _).mono (fun r h => ⟨fun c => (h c).2, sem_eq_zero_of_no_sems (by decide) r.2⟩) (Ref.run_result m ρ)

/-- A result of the kernel is the reference's result. -/
theorem result_eq (m : (ℓ : Loc Cert.KernelIdeal.nD Cert.KernelIdeal.τ Cert.KernelIdeal.sig) → Buf (Elt Ideal) ℓ) (d : Dev Cert.KernelIdeal.nD)
    (h : ∀ j : Cert.KernelIdeal.S1024x200.Idx, ((m (itemsLoc d) : Cert.KernelIdeal.S1024x200.Idx → BitVec 32) j).toNat < 100000)
    (g : Cert.KernelIdeal.S1024x200.Idx → Elt Ideal .f32) (hg : IsResult (F := Ideal) m d g) : g = Ref.result (m (trainLoc d)) (m (itemsLoc d)) := by
  funext j
  have hj : j = ix2 (j 0) (j 1) := eq_ix2 j
  rw [hj]
  exact (result_at m d g hg (j 0) (j 1) ⟨_, h (ix2 (j 0) (j 1))⟩ rfl).trans (Ref.result_at _ _ h (j 0) (j 1) ⟨_, h (ix2 (j 0) (j 1))⟩ rfl).symm

/-- From memories that agree on the arguments, with the item numbers in range, both programs end with the same result. -/
theorem same_result : Cert.algebraic_KernelIdeal_ReferenceIdeal := by
  intro m g m' g' hpre hagree
  have hlt : ∀ (d : Dev Cert.KernelIdeal.nD) (j : Cert.KernelIdeal.S1024x200.Idx), ((m (itemsLoc d) : Cert.KernelIdeal.S1024x200.Idx → BitVec 32) j).toNat < 100000 :=
    fun d => items_lt _ _ (hpre d)
  refine ⟨fun c => Ref.result (m (trainLoc c)) (m (itemsLoc c)), ?_, ?_⟩
  · exact (θ_run Cert.KernelIdeal.defs _ _).mono
      (fun _ h c => ⟨result_eq m c (hlt c) _ (h.1 c).2.2, (h.1 c).1, (h.1 c).2.1⟩)
      (run_main (F := Ideal) m g (ids_inRange m hlt))
  · refine (θ_run Cert.ReferenceIdeal.defs _ _).mono (fun _ h c => ⟨(h c).1.trans ?_, (h c).2⟩) (Ref.run_result m' g')
    rw [(hagree c).1, (hagree c).2]

theorem claim : Cert.Claim := ⟨Cert.Kernel.Gen.facts, Cert.KernelIdeal.Gen.facts, Cert.ReferenceIdeal.Gen.facts, Cert.Pre_in_range.Gen.facts,
  frame_kernel, frame_kernelIdeal, frame_reference, fun m ρ _ => frame_reference m ρ trivial, trivial, same_result⟩

end Cert.Proof

end
